-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S16x16x256 : Shape := ⟨3, ![16, 16, 256]⟩
abbrev S16x256 : Shape := ⟨2, ![16, 256]⟩
abbrev S16 : Shape := ⟨1, ![16]⟩
abbrev S_ : Shape := ⟨0, ![]⟩
abbrev S1 : Shape := ⟨1, ![1]⟩
abbrev S1x16x256 : Shape := ⟨3, ![1, 16, 256]⟩

abbrev nBuf : Space → Nat
  | .hbm => 5
  | .vmem => 8
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S512x256, .bf16⟩
  | .hbm, ⟨4, _⟩ => ⟨S256x256, .bf16⟩
  | .local _ .vmem, ⟨0, _⟩ => ⟨S256x256, .bf16⟩
  | .local _ .vmem, ⟨1, _⟩ => ⟨S256x512, .bf16⟩
  | .local _ .vmem, ⟨2, _⟩ => ⟨S256x512, .bf16⟩
  | .local _ .vmem, ⟨3, _⟩ => ⟨S512x256, .bf16⟩
  | .local _ .vmem, ⟨4, _⟩ => ⟨S256x256, .bf16⟩
  | .local _ .vmem, ⟨5, _⟩ => ⟨S256x256, .bf16⟩
  | .local _ .vmem, ⟨6, _⟩ => ⟨S16x16x256, .bf16⟩
  | .local _ .vmem, ⟨7, _⟩ => ⟨S16x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v4 : BitVec 32 := Scalar.addi v2 c10_i32
  let c16_i32_0 : BitVec 32 := 16#32
  let c0_i32 : BitVec 32 := 0#32
  let v5 : BitVec 1 := Scalar.cmpi .eq c16_i32_0 c0_i32
  let c1_i32_1 : BitVec 32 := 1#32
  let v6 : BitVec 32 := Scalar.select v5 c1_i32_1 c16_i32_0
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v17 : BitVec 32 := Scalar.addi v2 c6_i32
  let c16_i32_8 : BitVec 32 := 16#32
  let c0_i32_9 : BitVec 32 := 0#32
  let v18 : BitVec 1 := Scalar.cmpi .eq c16_i32_8 c0_i32_9
  let c1_i32_10 : BitVec 32 := 1#32
  let v19 : BitVec 32 := Scalar.select v18 c1_i32_10 c16_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_15 : BitVec 32 := 1#32
  let v28 : BitVec 32 := Scalar.muli v27 c1_i32_15
  let v29 : BitVec 32 := Scalar.addi c0_i32_16 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v30 : BitVec 32 := Scalar.addi v2 c9_i32
  let c16_i32_17 : BitVec 32 := 16#32
  let c0_i32_18 : BitVec 32 := 0#32
  let v31 : BitVec 1 := Scalar.cmpi .eq c16_i32_17 c0_i32_18
  let c1_i32_19 : BitVec 32 := 1#32
  let v32 : BitVec 32 := Scalar.select v31 c1_i32_19 c16_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c1_i32_24 : BitVec 32 := 1#32
  let v41 : BitVec 32 := Scalar.muli v40 c1_i32_24
  let v42 : BitVec 32 := Scalar.addi c0_i32_25 v41
  v42.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v43 : BitVec 32 := Scalar.addi v2 c7_i32
  let c16_i32_26 : BitVec 32 := 16#32
  let c0_i32_27 : BitVec 32 := 0#32
  let v44 : BitVec 1 := Scalar.cmpi .eq c16_i32_26 c0_i32_27
  let c1_i32_28 : BitVec 32 := 1#32
  let v45 : BitVec 32 := Scalar.select v44 c1_i32_28 c16_i32_26
  let v46 : BitVec 32 := Scalar.remsi v43 v45
  let c0_i32_30 : BitVec 32 := 0#32
  let v48 : BitVec 1 := Scalar.cmpi .slt v46 c0_i32_30
  let c0_i32_31 : BitVec 32 := 0#32
  let v49 : BitVec 1 := Scalar.cmpi .slt v45 c0_i32_31
  let v50 : BitVec 1 := Scalar.xori v48 v49
  let c0_i32_29 : BitVec 32 := 0#32
  let v47 : BitVec 1 := Scalar.cmpi .ne v46 c0_i32_29
  let v51 : BitVec 1 := Scalar.andi v50 v47
  let v52 : BitVec 32 := Scalar.addi v46 v45
  let v53 : BitVec 32 := Scalar.select v51 v52 v46
  let c1_i32_33 : BitVec 32 := 1#32
  let v54 : BitVec 32 := Scalar.muli v53 c1_i32_33
  let v55 : BitVec 32 := Scalar.addi c0_i32_34 v54
  v55.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_35 : BitVec 32 := 16#32
  let c0_i32_36 : BitVec 32 := 0#32
  let v57 : BitVec 1 := Scalar.cmpi .eq c16_i32_35 c0_i32_36
  let c1_i32_37 : BitVec 32 := 1#32
  let v58 : BitVec 32 := Scalar.select v57 c1_i32_37 c16_i32_35
  let v59 : BitVec 32 := Scalar.remsi v56 v58
  let c0_i32_39 : BitVec 32 := 0#32
  let v61 : BitVec 1 := Scalar.cmpi .slt v59 c0_i32_39
  let c0_i32_40 : BitVec 32 := 0#32
  let v62 : BitVec 1 := Scalar.cmpi .slt v58 c0_i32_40
  let v63 : BitVec 1 := Scalar.xori v61 v62
  let c0_i32_38 : BitVec 32 := 0#32
  let v60 : BitVec 1 := Scalar.cmpi .ne v59 c0_i32_38
  let v64 : BitVec 1 := Scalar.andi v63 v60
  let v65 : BitVec 32 := Scalar.addi v59 v58
  let v66 : BitVec 32 := Scalar.select v64 v65 v59
  let c1_i32_42 : BitVec 32 := 1#32
  let v67 : BitVec 32 := Scalar.muli v66 c1_i32_42
  let v68 : BitVec 32 := Scalar.addi c0_i32_43 v67
  v68.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v69 : BitVec 32 := Scalar.addi v2 c2_i32
  let c16_i32_44 : BitVec 32 := 16#32
  let c0_i32_45 : BitVec 32 := 0#32
  let v70 : BitVec 1 := Scalar.cmpi .eq c16_i32_44 c0_i32_45
  let c1_i32_46 : BitVec 32 := 1#32
  let v71 : BitVec 32 := Scalar.select v70 c1_i32_46 c16_i32_44
  let v72 : BitVec 32 := Scalar.remsi v69 v71
  let c0_i32_48 : BitVec 32 := 0#32
  let v74 : BitVec 1 := Scalar.cmpi .slt v72 c0_i32_48
  let c0_i32_49 : BitVec 32 := 0#32
  let v75 : BitVec 1 := Scalar.cmpi .slt v71 c0_i32_49
  let v76 : BitVec 1 := Scalar.xori v74 v75
  let c0_i32_47 : BitVec 32 := 0#32
  let v73 : BitVec 1 := Scalar.cmpi .ne v72 c0_i32_47
  let v77 : BitVec 1 := Scalar.andi v76 v73
  let v78 : BitVec 32 := Scalar.addi v72 v71
  let v79 : BitVec 32 := Scalar.select v77 v78 v72
  let c1_i32_51 : BitVec 32 := 1#32
  let v80 : BitVec 32 := Scalar.muli v79 c1_i32_51
  let v81 : BitVec 32 := Scalar.addi c0_i32_52 v80
  v81.toNat
def k0_dev7 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v82 : BitVec 32 := Scalar.addi v2 c11_i32
  let c16_i32_53 : BitVec 32 := 16#32
  let c0_i32_54 : BitVec 32 := 0#32
  let v83 : BitVec 1 := Scalar.cmpi .eq c16_i32_53 c0_i32_54
  let c1_i32_55 : BitVec 32 := 1#32
  let v84 : BitVec 32 := Scalar.select v83 c1_i32_55 c16_i32_53
  let v85 : BitVec 32 := Scalar.remsi v82 v84
  let c0_i32_57 : BitVec 32 := 0#32
  let v87 : BitVec 1 := Scalar.cmpi .slt v85 c0_i32_57
  let c0_i32_58 : BitVec 32 := 0#32
  let v88 : BitVec 1 := Scalar.cmpi .slt v84 c0_i32_58
  let v89 : BitVec 1 := Scalar.xori v87 v88
  let c0_i32_56 : BitVec 32 := 0#32
  let v86 : BitVec 1 := Scalar.cmpi .ne v85 c0_i32_56
  let v90 : BitVec 1 := Scalar.andi v89 v86
  let v91 : BitVec 32 := Scalar.addi v85 v84
  let v92 : BitVec 32 := Scalar.select v90 v91 v85
  let c1_i32_60 : BitVec 32 := 1#32
  let v93 : BitVec 32 := Scalar.muli v92 c1_i32_60
  let v94 : BitVec 32 := Scalar.addi c0_i32_61 v93
  v94.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v95 : BitVec 32 := Scalar.addi v2 c5_i32
  let c16_i32_62 : BitVec 32 := 16#32
  let c0_i32_63 : BitVec 32 := 0#32
  let v96 : BitVec 1 := Scalar.cmpi .eq c16_i32_62 c0_i32_63
  let c1_i32_64 : BitVec 32 := 1#32
  let v97 : BitVec 32 := Scalar.select v96 c1_i32_64 c16_i32_62
  let v98 : BitVec 32 := Scalar.remsi v95 v97
  let c0_i32_66 : BitVec 32 := 0#32
  let v100 : BitVec 1 := Scalar.cmpi .slt v98 c0_i32_66
  let c0_i32_67 : BitVec 32 := 0#32
  let v101 : BitVec 1 := Scalar.cmpi .slt v97 c0_i32_67
  let v102 : BitVec 1 := Scalar.xori v100 v101
  let c0_i32_65 : BitVec 32 := 0#32
  let v99 : BitVec 1 := Scalar.cmpi .ne v98 c0_i32_65
  let v103 : BitVec 1 := Scalar.andi v102 v99
  let v104 : BitVec 32 := Scalar.addi v98 v97
  let v105 : BitVec 32 := Scalar.select v103 v104 v98
  let c1_i32_69 : BitVec 32 := 1#32
  let v106 : BitVec 32 := Scalar.muli v105 c1_i32_69
  let v107 : BitVec 32 := Scalar.addi c0_i32_70 v106
  v107.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v108 : BitVec 32 := Scalar.addi v2 c13_i32
  let c16_i32_71 : BitVec 32 := 16#32
  let c0_i32_72 : BitVec 32 := 0#32
  let v109 : BitVec 1 := Scalar.cmpi .eq c16_i32_71 c0_i32_72
  let c1_i32_73 : BitVec 32 := 1#32
  let v110 : BitVec 32 := Scalar.select v109 c1_i32_73 c16_i32_71
  let v111 : BitVec 32 := Scalar.remsi v108 v110
  let c0_i32_75 : BitVec 32 := 0#32
  let v113 : BitVec 1 := Scalar.cmpi .slt v111 c0_i32_75
  let c0_i32_76 : BitVec 32 := 0#32
  let v114 : BitVec 1 := Scalar.cmpi .slt v110 c0_i32_76
  let v115 : BitVec 1 := Scalar.xori v113 v114
  let c0_i32_74 : BitVec 32 := 0#32
  let v112 : BitVec 1 := Scalar.cmpi .ne v111 c0_i32_74
  let v116 : BitVec 1 := Scalar.andi v115 v112
  let v117 : BitVec 32 := Scalar.addi v111 v110
  let v118 : BitVec 32 := Scalar.select v116 v117 v111
  let c1_i32_78 : BitVec 32 := 1#32
  let v119 : BitVec 32 := Scalar.muli v118 c1_i32_78
  let v120 : BitVec 32 := Scalar.addi c0_i32_79 v119
  v120.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v121 : BitVec 32 := Scalar.addi v2 c3_i32
  let c16_i32_80 : BitVec 32 := 16#32
  let c0_i32_81 : BitVec 32 := 0#32
  let v122 : BitVec 1 := Scalar.cmpi .eq c16_i32_80 c0_i32_81
  let c1_i32_82 : BitVec 32 := 1#32
  let v123 : BitVec 32 := Scalar.select v122 c1_i32_82 c16_i32_80
  let v124 : BitVec 32 := Scalar.remsi v121 v123
  let c0_i32_84 : BitVec 32 := 0#32
  let v126 : BitVec 1 := Scalar.cmpi .slt v124 c0_i32_84
  let c0_i32_85 : BitVec 32 := 0#32
  let v127 : BitVec 1 := Scalar.cmpi .slt v123 c0_i32_85
  let v128 : BitVec 1 := Scalar.xori v126 v127
  let c0_i32_83 : BitVec 32 := 0#32
  let v125 : BitVec 1 := Scalar.cmpi .ne v124 c0_i32_83
  let v129 : BitVec 1 := Scalar.andi v128 v125
  let v130 : BitVec 32 := Scalar.addi v124 v123
  let v131 : BitVec 32 := Scalar.select v129 v130 v124
  let c1_i32_87 : BitVec 32 := 1#32
  let v132 : BitVec 32 := Scalar.muli v131 c1_i32_87
  let v133 : BitVec 32 := Scalar.addi c0_i32_88 v132
  v133.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v134 : BitVec 32 := Scalar.addi v2 c8_i32
  let c16_i32_89 : BitVec 32 := 16#32
  let c0_i32_90 : BitVec 32 := 0#32
  let v135 : BitVec 1 := Scalar.cmpi .eq c16_i32_89 c0_i32_90
  let c1_i32_91 : BitVec 32 := 1#32
  let v136 : BitVec 32 := Scalar.select v135 c1_i32_91 c16_i32_89
  let v137 : BitVec 32 := Scalar.remsi v134 v136
  let c0_i32_93 : BitVec 32 := 0#32
  let v139 : BitVec 1 := Scalar.cmpi .slt v137 c0_i32_93
  let c0_i32_94 : BitVec 32 := 0#32
  let v140 : BitVec 1 := Scalar.cmpi .slt v136 c0_i32_94
  let v141 : BitVec 1 := Scalar.xori v139 v140
  let c0_i32_92 : BitVec 32 := 0#32
  let v138 : BitVec 1 := Scalar.cmpi .ne v137 c0_i32_92
  let v142 : BitVec 1 := Scalar.andi v141 v138
  let v143 : BitVec 32 := Scalar.addi v137 v136
  let v144 : BitVec 32 := Scalar.select v142 v143 v137
  let c1_i32_96 : BitVec 32 := 1#32
  let v145 : BitVec 32 := Scalar.muli v144 c1_i32_96
  let v146 : BitVec 32 := Scalar.addi c0_i32_97 v145
  v146.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_98 : BitVec 32 := 16#32
  let c0_i32_99 : BitVec 32 := 0#32
  let v148 : BitVec 1 := Scalar.cmpi .eq c16_i32_98 c0_i32_99
  let c1_i32_100 : BitVec 32 := 1#32
  let v149 : BitVec 32 := Scalar.select v148 c1_i32_100 c16_i32_98
  let v150 : BitVec 32 := Scalar.remsi v147 v149
  let c0_i32_102 : BitVec 32 := 0#32
  let v152 : BitVec 1 := Scalar.cmpi .slt v150 c0_i32_102
  let c0_i32_103 : BitVec 32 := 0#32
  let v153 : BitVec 1 := Scalar.cmpi .slt v149 c0_i32_103
  let v154 : BitVec 1 := Scalar.xori v152 v153
  let c0_i32_101 : BitVec 32 := 0#32
  let v151 : BitVec 1 := Scalar.cmpi .ne v150 c0_i32_101
  let v155 : BitVec 1 := Scalar.andi v154 v151
  let v156 : BitVec 32 := Scalar.addi v150 v149
  let v157 : BitVec 32 := Scalar.select v155 v156 v150
  let c1_i32_105 : BitVec 32 := 1#32
  let v158 : BitVec 32 := Scalar.muli v157 c1_i32_105
  let v159 : BitVec 32 := Scalar.addi c0_i32_106 v158
  v159.toNat
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v160 : BitVec 32 := Scalar.addi v2 c4_i32
  let c16_i32_107 : BitVec 32 := 16#32
  let c0_i32_108 : BitVec 32 := 0#32
  let v161 : BitVec 1 := Scalar.cmpi .eq c16_i32_107 c0_i32_108
  let c1_i32_109 : BitVec 32 := 1#32
  let v162 : BitVec 32 := Scalar.select v161 c1_i32_109 c16_i32_107
  let v163 : BitVec 32 := Scalar.remsi v160 v162
  let c0_i32_111 : BitVec 32 := 0#32
  let v165 : BitVec 1 := Scalar.cmpi .slt v163 c0_i32_111
  let c0_i32_112 : BitVec 32 := 0#32
  let v166 : BitVec 1 := Scalar.cmpi .slt v162 c0_i32_112
  let v167 : BitVec 1 := Scalar.xori v165 v166
  let c0_i32_110 : BitVec 32 := 0#32
  let v164 : BitVec 1 := Scalar.cmpi .ne v163 c0_i32_110
  let v168 : BitVec 1 := Scalar.andi v167 v164
  let v169 : BitVec 32 := Scalar.addi v163 v162
  let v170 : BitVec 32 := Scalar.select v168 v169 v163
  let c1_i32_114 : BitVec 32 := 1#32
  let v171 : BitVec 32 := Scalar.muli v170 c1_i32_114
  let v172 : BitVec 32 := Scalar.addi c0_i32_115 v171
  v172.toNat
def k0_dev14 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v173 : BitVec 32 := Scalar.addi v2 c15_i32
  let c16_i32_116 : BitVec 32 := 16#32
  let c0_i32_117 : BitVec 32 := 0#32
  let v174 : BitVec 1 := Scalar.cmpi .eq c16_i32_116 c0_i32_117
  let c1_i32_118 : BitVec 32 := 1#32
  let v175 : BitVec 32 := Scalar.select v174 c1_i32_118 c16_i32_116
  let v176 : BitVec 32 := Scalar.remsi v173 v175
  let c0_i32_120 : BitVec 32 := 0#32
  let v178 : BitVec 1 := Scalar.cmpi .slt v176 c0_i32_120
  let c0_i32_121 : BitVec 32 := 0#32
  let v179 : BitVec 1 := Scalar.cmpi .slt v175 c0_i32_121
  let v180 : BitVec 1 := Scalar.xori v178 v179
  let c0_i32_119 : BitVec 32 := 0#32
  let v177 : BitVec 1 := Scalar.cmpi .ne v176 c0_i32_119
  let v181 : BitVec 1 := Scalar.andi v180 v177
  let v182 : BitVec 32 := Scalar.addi v176 v175
  let v183 : BitVec 32 := Scalar.select v181 v182 v176
  let c1_i32_123 : BitVec 32 := 1#32
  let v184 : BitVec 32 := Scalar.muli v183 c1_i32_123
  let v185 : BitVec 32 := Scalar.addi c0_i32_124 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_125 : BitVec 32 := 1#32
  let v186 : BitVec 32 := Scalar.addi v2 c1_i32_125
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c10_i32_149 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v222 : BitVec 32 := Scalar.addi v2 c10_i32_149
  let c16_i32_150 : BitVec 32 := 16#32
  let c0_i32_151 : BitVec 32 := 0#32
  let v223 : BitVec 1 := Scalar.cmpi .eq c16_i32_150 c0_i32_151
  let c1_i32_152 : BitVec 32 := 1#32
  let v224 : BitVec 32 := Scalar.select v223 c1_i32_152 c16_i32_150
  let v225 : BitVec 32 := Scalar.remsi v222 v224
  let c0_i32_154 : BitVec 32 := 0#32
  let v227 : BitVec 1 := Scalar.cmpi .slt v225 c0_i32_154
  let c0_i32_155 : BitVec 32 := 0#32
  let v228 : BitVec 1 := Scalar.cmpi .slt v224 c0_i32_155
  let v229 : BitVec 1 := Scalar.xori v227 v228
  let c0_i32_153 : BitVec 32 := 0#32
  let v226 : BitVec 1 := Scalar.cmpi .ne v225 c0_i32_153
  let v230 : BitVec 1 := Scalar.andi v229 v226
  let v231 : BitVec 32 := Scalar.addi v225 v224
  let v232 : BitVec 32 := Scalar.select v230 v231 v225
  let c16_i32_156 : BitVec 32 := 16#32
  let v233 : BitVec 32 := Scalar.muli v232 c16_i32_156
  let c0_i32_164 : BitVec 32 := 0#32
  ![v233.toNat, 0]
def k0_dev16 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_149 : BitVec 32 := 10#32
  let v222 : BitVec 32 := Scalar.addi v2 c10_i32_149
  let c16_i32_150 : BitVec 32 := 16#32
  let c0_i32_151 : BitVec 32 := 0#32
  let v223 : BitVec 1 := Scalar.cmpi .eq c16_i32_150 c0_i32_151
  let c1_i32_152 : BitVec 32 := 1#32
  let v224 : BitVec 32 := Scalar.select v223 c1_i32_152 c16_i32_150
  let v225 : BitVec 32 := Scalar.remsi v222 v224
  let c0_i32_154 : BitVec 32 := 0#32
  let v227 : BitVec 1 := Scalar.cmpi .slt v225 c0_i32_154
  let c0_i32_155 : BitVec 32 := 0#32
  let v228 : BitVec 1 := Scalar.cmpi .slt v224 c0_i32_155
  let v229 : BitVec 1 := Scalar.xori v227 v228
  let c0_i32_153 : BitVec 32 := 0#32
  let v226 : BitVec 1 := Scalar.cmpi .ne v225 c0_i32_153
  let v230 : BitVec 1 := Scalar.andi v229 v226
  let v231 : BitVec 32 := Scalar.addi v225 v224
  let v232 : BitVec 32 := Scalar.select v230 v231 v225
  let c1_i32_160 : BitVec 32 := 1#32
  let v234 : BitVec 32 := Scalar.muli v232 c1_i32_160
  let v235 : BitVec 32 := Scalar.addi c0_i32_161 v234
  v235.toNat
def k0_dev17 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_165 : BitVec 32 := 6#32
  let v243 : BitVec 32 := Scalar.addi v2 c6_i32_165
  let c16_i32_166 : BitVec 32 := 16#32
  let c0_i32_167 : BitVec 32 := 0#32
  let v244 : BitVec 1 := Scalar.cmpi .eq c16_i32_166 c0_i32_167
  let c1_i32_168 : BitVec 32 := 1#32
  let v245 : BitVec 32 := Scalar.select v244 c1_i32_168 c16_i32_166
  let v246 : BitVec 32 := Scalar.remsi v243 v245
  let c0_i32_170 : BitVec 32 := 0#32
  let v248 : BitVec 1 := Scalar.cmpi .slt v246 c0_i32_170
  let c0_i32_171 : BitVec 32 := 0#32
  let v249 : BitVec 1 := Scalar.cmpi .slt v245 c0_i32_171
  let v250 : BitVec 1 := Scalar.xori v248 v249
  let c0_i32_169 : BitVec 32 := 0#32
  let v247 : BitVec 1 := Scalar.cmpi .ne v246 c0_i32_169
  let v251 : BitVec 1 := Scalar.andi v250 v247
  let v252 : BitVec 32 := Scalar.addi v246 v245
  let v253 : BitVec 32 := Scalar.select v251 v252 v246
  let c1_i32_176 : BitVec 32 := 1#32
  let v255 : BitVec 32 := Scalar.muli v253 c1_i32_176
  let v256 : BitVec 32 := Scalar.addi c0_i32_177 v255
  v256.toNat
def k0_dev18 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_181 : BitVec 32 := 9#32
  let v264 : BitVec 32 := Scalar.addi v2 c9_i32_181
  let c16_i32_182 : BitVec 32 := 16#32
  let c0_i32_183 : BitVec 32 := 0#32
  let v265 : BitVec 1 := Scalar.cmpi .eq c16_i32_182 c0_i32_183
  let c1_i32_184 : BitVec 32 := 1#32
  let v266 : BitVec 32 := Scalar.select v265 c1_i32_184 c16_i32_182
  let v267 : BitVec 32 := Scalar.remsi v264 v266
  let c0_i32_186 : BitVec 32 := 0#32
  let v269 : BitVec 1 := Scalar.cmpi .slt v267 c0_i32_186
  let c0_i32_187 : BitVec 32 := 0#32
  let v270 : BitVec 1 := Scalar.cmpi .slt v266 c0_i32_187
  let v271 : BitVec 1 := Scalar.xori v269 v270
  let c0_i32_185 : BitVec 32 := 0#32
  let v268 : BitVec 1 := Scalar.cmpi .ne v267 c0_i32_185
  let v272 : BitVec 1 := Scalar.andi v271 v268
  let v273 : BitVec 32 := Scalar.addi v267 v266
  let v274 : BitVec 32 := Scalar.select v272 v273 v267
  let c1_i32_192 : BitVec 32 := 1#32
  let v276 : BitVec 32 := Scalar.muli v274 c1_i32_192
  let v277 : BitVec 32 := Scalar.addi c0_i32_193 v276
  v277.toNat
def k0_dev19 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_197 : BitVec 32 := 7#32
  let v285 : BitVec 32 := Scalar.addi v2 c7_i32_197
  let c16_i32_198 : BitVec 32 := 16#32
  let c0_i32_199 : BitVec 32 := 0#32
  let v286 : BitVec 1 := Scalar.cmpi .eq c16_i32_198 c0_i32_199
  let c1_i32_200 : BitVec 32 := 1#32
  let v287 : BitVec 32 := Scalar.select v286 c1_i32_200 c16_i32_198
  let v288 : BitVec 32 := Scalar.remsi v285 v287
  let c0_i32_202 : BitVec 32 := 0#32
  let v290 : BitVec 1 := Scalar.cmpi .slt v288 c0_i32_202
  let c0_i32_203 : BitVec 32 := 0#32
  let v291 : BitVec 1 := Scalar.cmpi .slt v287 c0_i32_203
  let v292 : BitVec 1 := Scalar.xori v290 v291
  let c0_i32_201 : BitVec 32 := 0#32
  let v289 : BitVec 1 := Scalar.cmpi .ne v288 c0_i32_201
  let v293 : BitVec 1 := Scalar.andi v292 v289
  let v294 : BitVec 32 := Scalar.addi v288 v287
  let v295 : BitVec 32 := Scalar.select v293 v294 v288
  let c1_i32_208 : BitVec 32 := 1#32
  let v297 : BitVec 32 := Scalar.muli v295 c1_i32_208
  let v298 : BitVec 32 := Scalar.addi c0_i32_209 v297
  v298.toNat
def k0_dev20 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_213 : BitVec 32 := 14#32
  let v306 : BitVec 32 := Scalar.addi v2 c14_i32_213
  let c16_i32_214 : BitVec 32 := 16#32
  let c0_i32_215 : BitVec 32 := 0#32
  let v307 : BitVec 1 := Scalar.cmpi .eq c16_i32_214 c0_i32_215
  let c1_i32_216 : BitVec 32 := 1#32
  let v308 : BitVec 32 := Scalar.select v307 c1_i32_216 c16_i32_214
  let v309 : BitVec 32 := Scalar.remsi v306 v308
  let c0_i32_218 : BitVec 32 := 0#32
  let v311 : BitVec 1 := Scalar.cmpi .slt v309 c0_i32_218
  let c0_i32_219 : BitVec 32 := 0#32
  let v312 : BitVec 1 := Scalar.cmpi .slt v308 c0_i32_219
  let v313 : BitVec 1 := Scalar.xori v311 v312
  let c0_i32_217 : BitVec 32 := 0#32
  let v310 : BitVec 1 := Scalar.cmpi .ne v309 c0_i32_217
  let v314 : BitVec 1 := Scalar.andi v313 v310
  let v315 : BitVec 32 := Scalar.addi v309 v308
  let v316 : BitVec 32 := Scalar.select v314 v315 v309
  let c1_i32_224 : BitVec 32 := 1#32
  let v318 : BitVec 32 := Scalar.muli v316 c1_i32_224
  let v319 : BitVec 32 := Scalar.addi c0_i32_225 v318
  v319.toNat
def k0_dev21 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_229 : BitVec 32 := 2#32
  let v327 : BitVec 32 := Scalar.addi v2 c2_i32_229
  let c16_i32_230 : BitVec 32 := 16#32
  let c0_i32_231 : BitVec 32 := 0#32
  let v328 : BitVec 1 := Scalar.cmpi .eq c16_i32_230 c0_i32_231
  let c1_i32_232 : BitVec 32 := 1#32
  let v329 : BitVec 32 := Scalar.select v328 c1_i32_232 c16_i32_230
  let v330 : BitVec 32 := Scalar.remsi v327 v329
  let c0_i32_234 : BitVec 32 := 0#32
  let v332 : BitVec 1 := Scalar.cmpi .slt v330 c0_i32_234
  let c0_i32_235 : BitVec 32 := 0#32
  let v333 : BitVec 1 := Scalar.cmpi .slt v329 c0_i32_235
  let v334 : BitVec 1 := Scalar.xori v332 v333
  let c0_i32_233 : BitVec 32 := 0#32
  let v331 : BitVec 1 := Scalar.cmpi .ne v330 c0_i32_233
  let v335 : BitVec 1 := Scalar.andi v334 v331
  let v336 : BitVec 32 := Scalar.addi v330 v329
  let v337 : BitVec 32 := Scalar.select v335 v336 v330
  let c1_i32_240 : BitVec 32 := 1#32
  let v339 : BitVec 32 := Scalar.muli v337 c1_i32_240
  let v340 : BitVec 32 := Scalar.addi c0_i32_241 v339
  v340.toNat
def k0_dev22 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_245 : BitVec 32 := 11#32
  let v348 : BitVec 32 := Scalar.addi v2 c11_i32_245
  let c16_i32_246 : BitVec 32 := 16#32
  let c0_i32_247 : BitVec 32 := 0#32
  let v349 : BitVec 1 := Scalar.cmpi .eq c16_i32_246 c0_i32_247
  let c1_i32_248 : BitVec 32 := 1#32
  let v350 : BitVec 32 := Scalar.select v349 c1_i32_248 c16_i32_246
  let v351 : BitVec 32 := Scalar.remsi v348 v350
  let c0_i32_250 : BitVec 32 := 0#32
  let v353 : BitVec 1 := Scalar.cmpi .slt v351 c0_i32_250
  let c0_i32_251 : BitVec 32 := 0#32
  let v354 : BitVec 1 := Scalar.cmpi .slt v350 c0_i32_251
  let v355 : BitVec 1 := Scalar.xori v353 v354
  let c0_i32_249 : BitVec 32 := 0#32
  let v352 : BitVec 1 := Scalar.cmpi .ne v351 c0_i32_249
  let v356 : BitVec 1 := Scalar.andi v355 v352
  let v357 : BitVec 32 := Scalar.addi v351 v350
  let v358 : BitVec 32 := Scalar.select v356 v357 v351
  let c1_i32_256 : BitVec 32 := 1#32
  let v360 : BitVec 32 := Scalar.muli v358 c1_i32_256
  let v361 : BitVec 32 := Scalar.addi c0_i32_257 v360
  v361.toNat
def k0_dev23 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_261 : BitVec 32 := 5#32
  let v369 : BitVec 32 := Scalar.addi v2 c5_i32_261
  let c16_i32_262 : BitVec 32 := 16#32
  let c0_i32_263 : BitVec 32 := 0#32
  let v370 : BitVec 1 := Scalar.cmpi .eq c16_i32_262 c0_i32_263
  let c1_i32_264 : BitVec 32 := 1#32
  let v371 : BitVec 32 := Scalar.select v370 c1_i32_264 c16_i32_262
  let v372 : BitVec 32 := Scalar.remsi v369 v371
  let c0_i32_266 : BitVec 32 := 0#32
  let v374 : BitVec 1 := Scalar.cmpi .slt v372 c0_i32_266
  let c0_i32_267 : BitVec 32 := 0#32
  let v375 : BitVec 1 := Scalar.cmpi .slt v371 c0_i32_267
  let v376 : BitVec 1 := Scalar.xori v374 v375
  let c0_i32_265 : BitVec 32 := 0#32
  let v373 : BitVec 1 := Scalar.cmpi .ne v372 c0_i32_265
  let v377 : BitVec 1 := Scalar.andi v376 v373
  let v378 : BitVec 32 := Scalar.addi v372 v371
  let v379 : BitVec 32 := Scalar.select v377 v378 v372
  let c1_i32_272 : BitVec 32 := 1#32
  let v381 : BitVec 32 := Scalar.muli v379 c1_i32_272
  let v382 : BitVec 32 := Scalar.addi c0_i32_273 v381
  v382.toNat
def k0_dev24 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_277 : BitVec 32 := 13#32
  let v390 : BitVec 32 := Scalar.addi v2 c13_i32_277
  let c16_i32_278 : BitVec 32 := 16#32
  let c0_i32_279 : BitVec 32 := 0#32
  let v391 : BitVec 1 := Scalar.cmpi .eq c16_i32_278 c0_i32_279
  let c1_i32_280 : BitVec 32 := 1#32
  let v392 : BitVec 32 := Scalar.select v391 c1_i32_280 c16_i32_278
  let v393 : BitVec 32 := Scalar.remsi v390 v392
  let c0_i32_282 : BitVec 32 := 0#32
  let v395 : BitVec 1 := Scalar.cmpi .slt v393 c0_i32_282
  let c0_i32_283 : BitVec 32 := 0#32
  let v396 : BitVec 1 := Scalar.cmpi .slt v392 c0_i32_283
  let v397 : BitVec 1 := Scalar.xori v395 v396
  let c0_i32_281 : BitVec 32 := 0#32
  let v394 : BitVec 1 := Scalar.cmpi .ne v393 c0_i32_281
  let v398 : BitVec 1 := Scalar.andi v397 v394
  let v399 : BitVec 32 := Scalar.addi v393 v392
  let v400 : BitVec 32 := Scalar.select v398 v399 v393
  let c1_i32_288 : BitVec 32 := 1#32
  let v402 : BitVec 32 := Scalar.muli v400 c1_i32_288
  let v403 : BitVec 32 := Scalar.addi c0_i32_289 v402
  v403.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_293 : BitVec 32 := 3#32
  let v411 : BitVec 32 := Scalar.addi v2 c3_i32_293
  let c16_i32_294 : BitVec 32 := 16#32
  let c0_i32_295 : BitVec 32 := 0#32
  let v412 : BitVec 1 := Scalar.cmpi .eq c16_i32_294 c0_i32_295
  let c1_i32_296 : BitVec 32 := 1#32
  let v413 : BitVec 32 := Scalar.select v412 c1_i32_296 c16_i32_294
  let v414 : BitVec 32 := Scalar.remsi v411 v413
  let c0_i32_298 : BitVec 32 := 0#32
  let v416 : BitVec 1 := Scalar.cmpi .slt v414 c0_i32_298
  let c0_i32_299 : BitVec 32 := 0#32
  let v417 : BitVec 1 := Scalar.cmpi .slt v413 c0_i32_299
  let v418 : BitVec 1 := Scalar.xori v416 v417
  let c0_i32_297 : BitVec 32 := 0#32
  let v415 : BitVec 1 := Scalar.cmpi .ne v414 c0_i32_297
  let v419 : BitVec 1 := Scalar.andi v418 v415
  let v420 : BitVec 32 := Scalar.addi v414 v413
  let v421 : BitVec 32 := Scalar.select v419 v420 v414
  let c1_i32_304 : BitVec 32 := 1#32
  let v423 : BitVec 32 := Scalar.muli v421 c1_i32_304
  let v424 : BitVec 32 := Scalar.addi c0_i32_305 v423
  v424.toNat
def k0_dev26 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_309 : BitVec 32 := 8#32
  let v432 : BitVec 32 := Scalar.addi v2 c8_i32_309
  let c16_i32_310 : BitVec 32 := 16#32
  let c0_i32_311 : BitVec 32 := 0#32
  let v433 : BitVec 1 := Scalar.cmpi .eq c16_i32_310 c0_i32_311
  let c1_i32_312 : BitVec 32 := 1#32
  let v434 : BitVec 32 := Scalar.select v433 c1_i32_312 c16_i32_310
  let v435 : BitVec 32 := Scalar.remsi v432 v434
  let c0_i32_314 : BitVec 32 := 0#32
  let v437 : BitVec 1 := Scalar.cmpi .slt v435 c0_i32_314
  let c0_i32_315 : BitVec 32 := 0#32
  let v438 : BitVec 1 := Scalar.cmpi .slt v434 c0_i32_315
  let v439 : BitVec 1 := Scalar.xori v437 v438
  let c0_i32_313 : BitVec 32 := 0#32
  let v436 : BitVec 1 := Scalar.cmpi .ne v435 c0_i32_313
  let v440 : BitVec 1 := Scalar.andi v439 v436
  let v441 : BitVec 32 := Scalar.addi v435 v434
  let v442 : BitVec 32 := Scalar.select v440 v441 v435
  let c1_i32_320 : BitVec 32 := 1#32
  let v444 : BitVec 32 := Scalar.muli v442 c1_i32_320
  let v445 : BitVec 32 := Scalar.addi c0_i32_321 v444
  v445.toNat
def k0_dev27 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_325 : BitVec 32 := 12#32
  let v453 : BitVec 32 := Scalar.addi v2 c12_i32_325
  let c16_i32_326 : BitVec 32 := 16#32
  let c0_i32_327 : BitVec 32 := 0#32
  let v454 : BitVec 1 := Scalar.cmpi .eq c16_i32_326 c0_i32_327
  let c1_i32_328 : BitVec 32 := 1#32
  let v455 : BitVec 32 := Scalar.select v454 c1_i32_328 c16_i32_326
  let v456 : BitVec 32 := Scalar.remsi v453 v455
  let c0_i32_330 : BitVec 32 := 0#32
  let v458 : BitVec 1 := Scalar.cmpi .slt v456 c0_i32_330
  let c0_i32_331 : BitVec 32 := 0#32
  let v459 : BitVec 1 := Scalar.cmpi .slt v455 c0_i32_331
  let v460 : BitVec 1 := Scalar.xori v458 v459
  let c0_i32_329 : BitVec 32 := 0#32
  let v457 : BitVec 1 := Scalar.cmpi .ne v456 c0_i32_329
  let v461 : BitVec 1 := Scalar.andi v460 v457
  let v462 : BitVec 32 := Scalar.addi v456 v455
  let v463 : BitVec 32 := Scalar.select v461 v462 v456
  let c1_i32_336 : BitVec 32 := 1#32
  let v465 : BitVec 32 := Scalar.muli v463 c1_i32_336
  let v466 : BitVec 32 := Scalar.addi c0_i32_337 v465
  v466.toNat
def k0_dev28 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_341 : BitVec 32 := 4#32
  let v474 : BitVec 32 := Scalar.addi v2 c4_i32_341
  let c16_i32_342 : BitVec 32 := 16#32
  let c0_i32_343 : BitVec 32 := 0#32
  let v475 : BitVec 1 := Scalar.cmpi .eq c16_i32_342 c0_i32_343
  let c1_i32_344 : BitVec 32 := 1#32
  let v476 : BitVec 32 := Scalar.select v475 c1_i32_344 c16_i32_342
  let v477 : BitVec 32 := Scalar.remsi v474 v476
  let c0_i32_346 : BitVec 32 := 0#32
  let v479 : BitVec 1 := Scalar.cmpi .slt v477 c0_i32_346
  let c0_i32_347 : BitVec 32 := 0#32
  let v480 : BitVec 1 := Scalar.cmpi .slt v476 c0_i32_347
  let v481 : BitVec 1 := Scalar.xori v479 v480
  let c0_i32_345 : BitVec 32 := 0#32
  let v478 : BitVec 1 := Scalar.cmpi .ne v477 c0_i32_345
  let v482 : BitVec 1 := Scalar.andi v481 v478
  let v483 : BitVec 32 := Scalar.addi v477 v476
  let v484 : BitVec 32 := Scalar.select v482 v483 v477
  let c1_i32_352 : BitVec 32 := 1#32
  let v486 : BitVec 32 := Scalar.muli v484 c1_i32_352
  let v487 : BitVec 32 := Scalar.addi c0_i32_353 v486
  v487.toNat
def k0_dev29 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_357 : BitVec 32 := 15#32
  let v495 : BitVec 32 := Scalar.addi v2 c15_i32_357
  let c16_i32_358 : BitVec 32 := 16#32
  let c0_i32_359 : BitVec 32 := 0#32
  let v496 : BitVec 1 := Scalar.cmpi .eq c16_i32_358 c0_i32_359
  let c1_i32_360 : BitVec 32 := 1#32
  let v497 : BitVec 32 := Scalar.select v496 c1_i32_360 c16_i32_358
  let v498 : BitVec 32 := Scalar.remsi v495 v497
  let c0_i32_362 : BitVec 32 := 0#32
  let v500 : BitVec 1 := Scalar.cmpi .slt v498 c0_i32_362
  let c0_i32_363 : BitVec 32 := 0#32
  let v501 : BitVec 1 := Scalar.cmpi .slt v497 c0_i32_363
  let v502 : BitVec 1 := Scalar.xori v500 v501
  let c0_i32_361 : BitVec 32 := 0#32
  let v499 : BitVec 1 := Scalar.cmpi .ne v498 c0_i32_361
  let v503 : BitVec 1 := Scalar.andi v502 v499
  let v504 : BitVec 32 := Scalar.addi v498 v497
  let v505 : BitVec 32 := Scalar.select v503 v504 v498
  let c1_i32_368 : BitVec 32 := 1#32
  let v507 : BitVec 32 := Scalar.muli v505 c1_i32_368
  let v508 : BitVec 32 := Scalar.addi c0_i32_369 v507
  v508.toNat
def k0_dev30 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_373 : BitVec 32 := 1#32
  let v516 : BitVec 32 := Scalar.addi v2 c1_i32_373
  let c16_i32_374 : BitVec 32 := 16#32
  let c0_i32_375 : BitVec 32 := 0#32
  let v517 : BitVec 1 := Scalar.cmpi .eq c16_i32_374 c0_i32_375
  let c1_i32_376 : BitVec 32 := 1#32
  let v518 : BitVec 32 := Scalar.select v517 c1_i32_376 c16_i32_374
  let v519 : BitVec 32 := Scalar.remsi v516 v518
  let c0_i32_378 : BitVec 32 := 0#32
  let v521 : BitVec 1 := Scalar.cmpi .slt v519 c0_i32_378
  let c0_i32_379 : BitVec 32 := 0#32
  let v522 : BitVec 1 := Scalar.cmpi .slt v518 c0_i32_379
  let v523 : BitVec 1 := Scalar.xori v521 v522
  let c0_i32_377 : BitVec 32 := 0#32
  let v520 : BitVec 1 := Scalar.cmpi .ne v519 c0_i32_377
  let v524 : BitVec 1 := Scalar.andi v523 v520
  let v525 : BitVec 32 := Scalar.addi v519 v518
  let v526 : BitVec 32 := Scalar.select v524 v525 v519
  let c1_i32_384 : BitVec 32 := 1#32
  let v528 : BitVec 32 := Scalar.muli v526 c1_i32_384
  let v529 : BitVec 32 := Scalar.addi c0_i32_385 v528
  v529.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_389 : BitVec 32 := 16#32
  let v537 : BitVec 32 := Scalar.muli v2 c16_i32_389
  let v538 : Index := Scalar.indexCast v537
  let c0_390 : Index := 0#32
  ![v538.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_674 : BitVec 32 := 16#32
  let v890 : BitVec 32 := Scalar.muli v2 c16_i32_674
  let c0_i32_679 : BitVec 32 := 0#32
  ![v890.toNat, 0]
def k0_dev31 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_667 : BitVec 32 := 10#32
  let v879 : BitVec 32 := Scalar.addi v2 c10_i32_667
  let c16_i32_668 : BitVec 32 := 16#32
  let c0_i32_669 : BitVec 32 := 0#32
  let v880 : BitVec 1 := Scalar.cmpi .eq c16_i32_668 c0_i32_669
  let c1_i32_670 : BitVec 32 := 1#32
  let v881 : BitVec 32 := Scalar.select v880 c1_i32_670 c16_i32_668
  let v882 : BitVec 32 := Scalar.remsi v879 v881
  let c0_i32_672 : BitVec 32 := 0#32
  let v884 : BitVec 1 := Scalar.cmpi .slt v882 c0_i32_672
  let c0_i32_673 : BitVec 32 := 0#32
  let v885 : BitVec 1 := Scalar.cmpi .slt v881 c0_i32_673
  let v886 : BitVec 1 := Scalar.xori v884 v885
  let c0_i32_671 : BitVec 32 := 0#32
  let v883 : BitVec 1 := Scalar.cmpi .ne v882 c0_i32_671
  let v887 : BitVec 1 := Scalar.andi v886 v883
  let v888 : BitVec 32 := Scalar.addi v882 v881
  let v889 : BitVec 32 := Scalar.select v887 v888 v882
  let c1_i32_677 : BitVec 32 := 1#32
  let v891 : BitVec 32 := Scalar.muli v889 c1_i32_677
  let v892 : BitVec 32 := Scalar.addi c0_i32_678 v891
  v892.toNat
def k0_dev32 (d0 : Dev nD) : Nat :=
  let c0_i32_691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_680 : BitVec 32 := 6#32
  let v898 : BitVec 32 := Scalar.addi v2 c6_i32_680
  let c16_i32_681 : BitVec 32 := 16#32
  let c0_i32_682 : BitVec 32 := 0#32
  let v899 : BitVec 1 := Scalar.cmpi .eq c16_i32_681 c0_i32_682
  let c1_i32_683 : BitVec 32 := 1#32
  let v900 : BitVec 32 := Scalar.select v899 c1_i32_683 c16_i32_681
  let v901 : BitVec 32 := Scalar.remsi v898 v900
  let c0_i32_685 : BitVec 32 := 0#32
  let v903 : BitVec 1 := Scalar.cmpi .slt v901 c0_i32_685
  let c0_i32_686 : BitVec 32 := 0#32
  let v904 : BitVec 1 := Scalar.cmpi .slt v900 c0_i32_686
  let v905 : BitVec 1 := Scalar.xori v903 v904
  let c0_i32_684 : BitVec 32 := 0#32
  let v902 : BitVec 1 := Scalar.cmpi .ne v901 c0_i32_684
  let v906 : BitVec 1 := Scalar.andi v905 v902
  let v907 : BitVec 32 := Scalar.addi v901 v900
  let v908 : BitVec 32 := Scalar.select v906 v907 v901
  let c1_i32_690 : BitVec 32 := 1#32
  let v910 : BitVec 32 := Scalar.muli v908 c1_i32_690
  let v911 : BitVec 32 := Scalar.addi c0_i32_691 v910
  v911.toNat
def k0_dev33 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_693 : BitVec 32 := 9#32
  let v917 : BitVec 32 := Scalar.addi v2 c9_i32_693
  let c16_i32_694 : BitVec 32 := 16#32
  let c0_i32_695 : BitVec 32 := 0#32
  let v918 : BitVec 1 := Scalar.cmpi .eq c16_i32_694 c0_i32_695
  let c1_i32_696 : BitVec 32 := 1#32
  let v919 : BitVec 32 := Scalar.select v918 c1_i32_696 c16_i32_694
  let v920 : BitVec 32 := Scalar.remsi v917 v919
  let c0_i32_698 : BitVec 32 := 0#32
  let v922 : BitVec 1 := Scalar.cmpi .slt v920 c0_i32_698
  let c0_i32_699 : BitVec 32 := 0#32
  let v923 : BitVec 1 := Scalar.cmpi .slt v919 c0_i32_699
  let v924 : BitVec 1 := Scalar.xori v922 v923
  let c0_i32_697 : BitVec 32 := 0#32
  let v921 : BitVec 1 := Scalar.cmpi .ne v920 c0_i32_697
  let v925 : BitVec 1 := Scalar.andi v924 v921
  let v926 : BitVec 32 := Scalar.addi v920 v919
  let v927 : BitVec 32 := Scalar.select v925 v926 v920
  let c1_i32_703 : BitVec 32 := 1#32
  let v929 : BitVec 32 := Scalar.muli v927 c1_i32_703
  let v930 : BitVec 32 := Scalar.addi c0_i32_704 v929
  v930.toNat
def k0_dev34 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_706 : BitVec 32 := 7#32
  let v936 : BitVec 32 := Scalar.addi v2 c7_i32_706
  let c16_i32_707 : BitVec 32 := 16#32
  let c0_i32_708 : BitVec 32 := 0#32
  let v937 : BitVec 1 := Scalar.cmpi .eq c16_i32_707 c0_i32_708
  let c1_i32_709 : BitVec 32 := 1#32
  let v938 : BitVec 32 := Scalar.select v937 c1_i32_709 c16_i32_707
  let v939 : BitVec 32 := Scalar.remsi v936 v938
  let c0_i32_711 : BitVec 32 := 0#32
  let v941 : BitVec 1 := Scalar.cmpi .slt v939 c0_i32_711
  let c0_i32_712 : BitVec 32 := 0#32
  let v942 : BitVec 1 := Scalar.cmpi .slt v938 c0_i32_712
  let v943 : BitVec 1 := Scalar.xori v941 v942
  let c0_i32_710 : BitVec 32 := 0#32
  let v940 : BitVec 1 := Scalar.cmpi .ne v939 c0_i32_710
  let v944 : BitVec 1 := Scalar.andi v943 v940
  let v945 : BitVec 32 := Scalar.addi v939 v938
  let v946 : BitVec 32 := Scalar.select v944 v945 v939
  let c1_i32_716 : BitVec 32 := 1#32
  let v948 : BitVec 32 := Scalar.muli v946 c1_i32_716
  let v949 : BitVec 32 := Scalar.addi c0_i32_717 v948
  v949.toNat
def k0_dev35 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_719 : BitVec 32 := 14#32
  let v955 : BitVec 32 := Scalar.addi v2 c14_i32_719
  let c16_i32_720 : BitVec 32 := 16#32
  let c0_i32_721 : BitVec 32 := 0#32
  let v956 : BitVec 1 := Scalar.cmpi .eq c16_i32_720 c0_i32_721
  let c1_i32_722 : BitVec 32 := 1#32
  let v957 : BitVec 32 := Scalar.select v956 c1_i32_722 c16_i32_720
  let v958 : BitVec 32 := Scalar.remsi v955 v957
  let c0_i32_724 : BitVec 32 := 0#32
  let v960 : BitVec 1 := Scalar.cmpi .slt v958 c0_i32_724
  let c0_i32_725 : BitVec 32 := 0#32
  let v961 : BitVec 1 := Scalar.cmpi .slt v957 c0_i32_725
  let v962 : BitVec 1 := Scalar.xori v960 v961
  let c0_i32_723 : BitVec 32 := 0#32
  let v959 : BitVec 1 := Scalar.cmpi .ne v958 c0_i32_723
  let v963 : BitVec 1 := Scalar.andi v962 v959
  let v964 : BitVec 32 := Scalar.addi v958 v957
  let v965 : BitVec 32 := Scalar.select v963 v964 v958
  let c1_i32_729 : BitVec 32 := 1#32
  let v967 : BitVec 32 := Scalar.muli v965 c1_i32_729
  let v968 : BitVec 32 := Scalar.addi c0_i32_730 v967
  v968.toNat
def k0_dev36 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_732 : BitVec 32 := 2#32
  let v974 : BitVec 32 := Scalar.addi v2 c2_i32_732
  let c16_i32_733 : BitVec 32 := 16#32
  let c0_i32_734 : BitVec 32 := 0#32
  let v975 : BitVec 1 := Scalar.cmpi .eq c16_i32_733 c0_i32_734
  let c1_i32_735 : BitVec 32 := 1#32
  let v976 : BitVec 32 := Scalar.select v975 c1_i32_735 c16_i32_733
  let v977 : BitVec 32 := Scalar.remsi v974 v976
  let c0_i32_737 : BitVec 32 := 0#32
  let v979 : BitVec 1 := Scalar.cmpi .slt v977 c0_i32_737
  let c0_i32_738 : BitVec 32 := 0#32
  let v980 : BitVec 1 := Scalar.cmpi .slt v976 c0_i32_738
  let v981 : BitVec 1 := Scalar.xori v979 v980
  let c0_i32_736 : BitVec 32 := 0#32
  let v978 : BitVec 1 := Scalar.cmpi .ne v977 c0_i32_736
  let v982 : BitVec 1 := Scalar.andi v981 v978
  let v983 : BitVec 32 := Scalar.addi v977 v976
  let v984 : BitVec 32 := Scalar.select v982 v983 v977
  let c1_i32_742 : BitVec 32 := 1#32
  let v986 : BitVec 32 := Scalar.muli v984 c1_i32_742
  let v987 : BitVec 32 := Scalar.addi c0_i32_743 v986
  v987.toNat
def k0_dev37 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_745 : BitVec 32 := 11#32
  let v993 : BitVec 32 := Scalar.addi v2 c11_i32_745
  let c16_i32_746 : BitVec 32 := 16#32
  let c0_i32_747 : BitVec 32 := 0#32
  let v994 : BitVec 1 := Scalar.cmpi .eq c16_i32_746 c0_i32_747
  let c1_i32_748 : BitVec 32 := 1#32
  let v995 : BitVec 32 := Scalar.select v994 c1_i32_748 c16_i32_746
  let v996 : BitVec 32 := Scalar.remsi v993 v995
  let c0_i32_750 : BitVec 32 := 0#32
  let v998 : BitVec 1 := Scalar.cmpi .slt v996 c0_i32_750
  let c0_i32_751 : BitVec 32 := 0#32
  let v999 : BitVec 1 := Scalar.cmpi .slt v995 c0_i32_751
  let v1000 : BitVec 1 := Scalar.xori v998 v999
  let c0_i32_749 : BitVec 32 := 0#32
  let v997 : BitVec 1 := Scalar.cmpi .ne v996 c0_i32_749
  let v1001 : BitVec 1 := Scalar.andi v1000 v997
  let v1002 : BitVec 32 := Scalar.addi v996 v995
  let v1003 : BitVec 32 := Scalar.select v1001 v1002 v996
  let c1_i32_755 : BitVec 32 := 1#32
  let v1005 : BitVec 32 := Scalar.muli v1003 c1_i32_755
  let v1006 : BitVec 32 := Scalar.addi c0_i32_756 v1005
  v1006.toNat
def k0_dev38 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_758 : BitVec 32 := 5#32
  let v1012 : BitVec 32 := Scalar.addi v2 c5_i32_758
  let c16_i32_759 : BitVec 32 := 16#32
  let c0_i32_760 : BitVec 32 := 0#32
  let v1013 : BitVec 1 := Scalar.cmpi .eq c16_i32_759 c0_i32_760
  let c1_i32_761 : BitVec 32 := 1#32
  let v1014 : BitVec 32 := Scalar.select v1013 c1_i32_761 c16_i32_759
  let v1015 : BitVec 32 := Scalar.remsi v1012 v1014
  let c0_i32_763 : BitVec 32 := 0#32
  let v1017 : BitVec 1 := Scalar.cmpi .slt v1015 c0_i32_763
  let c0_i32_764 : BitVec 32 := 0#32
  let v1018 : BitVec 1 := Scalar.cmpi .slt v1014 c0_i32_764
  let v1019 : BitVec 1 := Scalar.xori v1017 v1018
  let c0_i32_762 : BitVec 32 := 0#32
  let v1016 : BitVec 1 := Scalar.cmpi .ne v1015 c0_i32_762
  let v1020 : BitVec 1 := Scalar.andi v1019 v1016
  let v1021 : BitVec 32 := Scalar.addi v1015 v1014
  let v1022 : BitVec 32 := Scalar.select v1020 v1021 v1015
  let c1_i32_768 : BitVec 32 := 1#32
  let v1024 : BitVec 32 := Scalar.muli v1022 c1_i32_768
  let v1025 : BitVec 32 := Scalar.addi c0_i32_769 v1024
  v1025.toNat
def k0_dev39 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_771 : BitVec 32 := 13#32
  let v1031 : BitVec 32 := Scalar.addi v2 c13_i32_771
  let c16_i32_772 : BitVec 32 := 16#32
  let c0_i32_773 : BitVec 32 := 0#32
  let v1032 : BitVec 1 := Scalar.cmpi .eq c16_i32_772 c0_i32_773
  let c1_i32_774 : BitVec 32 := 1#32
  let v1033 : BitVec 32 := Scalar.select v1032 c1_i32_774 c16_i32_772
  let v1034 : BitVec 32 := Scalar.remsi v1031 v1033
  let c0_i32_776 : BitVec 32 := 0#32
  let v1036 : BitVec 1 := Scalar.cmpi .slt v1034 c0_i32_776
  let c0_i32_777 : BitVec 32 := 0#32
  let v1037 : BitVec 1 := Scalar.cmpi .slt v1033 c0_i32_777
  let v1038 : BitVec 1 := Scalar.xori v1036 v1037
  let c0_i32_775 : BitVec 32 := 0#32
  let v1035 : BitVec 1 := Scalar.cmpi .ne v1034 c0_i32_775
  let v1039 : BitVec 1 := Scalar.andi v1038 v1035
  let v1040 : BitVec 32 := Scalar.addi v1034 v1033
  let v1041 : BitVec 32 := Scalar.select v1039 v1040 v1034
  let c1_i32_781 : BitVec 32 := 1#32
  let v1043 : BitVec 32 := Scalar.muli v1041 c1_i32_781
  let v1044 : BitVec 32 := Scalar.addi c0_i32_782 v1043
  v1044.toNat
def k0_dev40 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_784 : BitVec 32 := 3#32
  let v1050 : BitVec 32 := Scalar.addi v2 c3_i32_784
  let c16_i32_785 : BitVec 32 := 16#32
  let c0_i32_786 : BitVec 32 := 0#32
  let v1051 : BitVec 1 := Scalar.cmpi .eq c16_i32_785 c0_i32_786
  let c1_i32_787 : BitVec 32 := 1#32
  let v1052 : BitVec 32 := Scalar.select v1051 c1_i32_787 c16_i32_785
  let v1053 : BitVec 32 := Scalar.remsi v1050 v1052
  let c0_i32_789 : BitVec 32 := 0#32
  let v1055 : BitVec 1 := Scalar.cmpi .slt v1053 c0_i32_789
  let c0_i32_790 : BitVec 32 := 0#32
  let v1056 : BitVec 1 := Scalar.cmpi .slt v1052 c0_i32_790
  let v1057 : BitVec 1 := Scalar.xori v1055 v1056
  let c0_i32_788 : BitVec 32 := 0#32
  let v1054 : BitVec 1 := Scalar.cmpi .ne v1053 c0_i32_788
  let v1058 : BitVec 1 := Scalar.andi v1057 v1054
  let v1059 : BitVec 32 := Scalar.addi v1053 v1052
  let v1060 : BitVec 32 := Scalar.select v1058 v1059 v1053
  let c1_i32_794 : BitVec 32 := 1#32
  let v1062 : BitVec 32 := Scalar.muli v1060 c1_i32_794
  let v1063 : BitVec 32 := Scalar.addi c0_i32_795 v1062
  v1063.toNat
def k0_dev41 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_797 : BitVec 32 := 8#32
  let v1069 : BitVec 32 := Scalar.addi v2 c8_i32_797
  let c16_i32_798 : BitVec 32 := 16#32
  let c0_i32_799 : BitVec 32 := 0#32
  let v1070 : BitVec 1 := Scalar.cmpi .eq c16_i32_798 c0_i32_799
  let c1_i32_800 : BitVec 32 := 1#32
  let v1071 : BitVec 32 := Scalar.select v1070 c1_i32_800 c16_i32_798
  let v1072 : BitVec 32 := Scalar.remsi v1069 v1071
  let c0_i32_802 : BitVec 32 := 0#32
  let v1074 : BitVec 1 := Scalar.cmpi .slt v1072 c0_i32_802
  let c0_i32_803 : BitVec 32 := 0#32
  let v1075 : BitVec 1 := Scalar.cmpi .slt v1071 c0_i32_803
  let v1076 : BitVec 1 := Scalar.xori v1074 v1075
  let c0_i32_801 : BitVec 32 := 0#32
  let v1073 : BitVec 1 := Scalar.cmpi .ne v1072 c0_i32_801
  let v1077 : BitVec 1 := Scalar.andi v1076 v1073
  let v1078 : BitVec 32 := Scalar.addi v1072 v1071
  let v1079 : BitVec 32 := Scalar.select v1077 v1078 v1072
  let c1_i32_807 : BitVec 32 := 1#32
  let v1081 : BitVec 32 := Scalar.muli v1079 c1_i32_807
  let v1082 : BitVec 32 := Scalar.addi c0_i32_808 v1081
  v1082.toNat
def k0_dev42 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_810 : BitVec 32 := 12#32
  let v1088 : BitVec 32 := Scalar.addi v2 c12_i32_810
  let c16_i32_811 : BitVec 32 := 16#32
  let c0_i32_812 : BitVec 32 := 0#32
  let v1089 : BitVec 1 := Scalar.cmpi .eq c16_i32_811 c0_i32_812
  let c1_i32_813 : BitVec 32 := 1#32
  let v1090 : BitVec 32 := Scalar.select v1089 c1_i32_813 c16_i32_811
  let v1091 : BitVec 32 := Scalar.remsi v1088 v1090
  let c0_i32_815 : BitVec 32 := 0#32
  let v1093 : BitVec 1 := Scalar.cmpi .slt v1091 c0_i32_815
  let c0_i32_816 : BitVec 32 := 0#32
  let v1094 : BitVec 1 := Scalar.cmpi .slt v1090 c0_i32_816
  let v1095 : BitVec 1 := Scalar.xori v1093 v1094
  let c0_i32_814 : BitVec 32 := 0#32
  let v1092 : BitVec 1 := Scalar.cmpi .ne v1091 c0_i32_814
  let v1096 : BitVec 1 := Scalar.andi v1095 v1092
  let v1097 : BitVec 32 := Scalar.addi v1091 v1090
  let v1098 : BitVec 32 := Scalar.select v1096 v1097 v1091
  let c1_i32_820 : BitVec 32 := 1#32
  let v1100 : BitVec 32 := Scalar.muli v1098 c1_i32_820
  let v1101 : BitVec 32 := Scalar.addi c0_i32_821 v1100
  v1101.toNat
def k0_dev43 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_823 : BitVec 32 := 4#32
  let v1107 : BitVec 32 := Scalar.addi v2 c4_i32_823
  let c16_i32_824 : BitVec 32 := 16#32
  let c0_i32_825 : BitVec 32 := 0#32
  let v1108 : BitVec 1 := Scalar.cmpi .eq c16_i32_824 c0_i32_825
  let c1_i32_826 : BitVec 32 := 1#32
  let v1109 : BitVec 32 := Scalar.select v1108 c1_i32_826 c16_i32_824
  let v1110 : BitVec 32 := Scalar.remsi v1107 v1109
  let c0_i32_828 : BitVec 32 := 0#32
  let v1112 : BitVec 1 := Scalar.cmpi .slt v1110 c0_i32_828
  let c0_i32_829 : BitVec 32 := 0#32
  let v1113 : BitVec 1 := Scalar.cmpi .slt v1109 c0_i32_829
  let v1114 : BitVec 1 := Scalar.xori v1112 v1113
  let c0_i32_827 : BitVec 32 := 0#32
  let v1111 : BitVec 1 := Scalar.cmpi .ne v1110 c0_i32_827
  let v1115 : BitVec 1 := Scalar.andi v1114 v1111
  let v1116 : BitVec 32 := Scalar.addi v1110 v1109
  let v1117 : BitVec 32 := Scalar.select v1115 v1116 v1110
  let c1_i32_833 : BitVec 32 := 1#32
  let v1119 : BitVec 32 := Scalar.muli v1117 c1_i32_833
  let v1120 : BitVec 32 := Scalar.addi c0_i32_834 v1119
  v1120.toNat
def k0_dev44 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_836 : BitVec 32 := 15#32
  let v1126 : BitVec 32 := Scalar.addi v2 c15_i32_836
  let c16_i32_837 : BitVec 32 := 16#32
  let c0_i32_838 : BitVec 32 := 0#32
  let v1127 : BitVec 1 := Scalar.cmpi .eq c16_i32_837 c0_i32_838
  let c1_i32_839 : BitVec 32 := 1#32
  let v1128 : BitVec 32 := Scalar.select v1127 c1_i32_839 c16_i32_837
  let v1129 : BitVec 32 := Scalar.remsi v1126 v1128
  let c0_i32_841 : BitVec 32 := 0#32
  let v1131 : BitVec 1 := Scalar.cmpi .slt v1129 c0_i32_841
  let c0_i32_842 : BitVec 32 := 0#32
  let v1132 : BitVec 1 := Scalar.cmpi .slt v1128 c0_i32_842
  let v1133 : BitVec 1 := Scalar.xori v1131 v1132
  let c0_i32_840 : BitVec 32 := 0#32
  let v1130 : BitVec 1 := Scalar.cmpi .ne v1129 c0_i32_840
  let v1134 : BitVec 1 := Scalar.andi v1133 v1130
  let v1135 : BitVec 32 := Scalar.addi v1129 v1128
  let v1136 : BitVec 32 := Scalar.select v1134 v1135 v1129
  let c1_i32_846 : BitVec 32 := 1#32
  let v1138 : BitVec 32 := Scalar.muli v1136 c1_i32_846
  let v1139 : BitVec 32 := Scalar.addi c0_i32_847 v1138
  v1139.toNat
def k0_dev45 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_849 : BitVec 32 := 1#32
  let v1145 : BitVec 32 := Scalar.addi v2 c1_i32_849
  let c16_i32_850 : BitVec 32 := 16#32
  let c0_i32_851 : BitVec 32 := 0#32
  let v1146 : BitVec 1 := Scalar.cmpi .eq c16_i32_850 c0_i32_851
  let c1_i32_852 : BitVec 32 := 1#32
  let v1147 : BitVec 32 := Scalar.select v1146 c1_i32_852 c16_i32_850
  let v1148 : BitVec 32 := Scalar.remsi v1145 v1147
  let c0_i32_854 : BitVec 32 := 0#32
  let v1150 : BitVec 1 := Scalar.cmpi .slt v1148 c0_i32_854
  let c0_i32_855 : BitVec 32 := 0#32
  let v1151 : BitVec 1 := Scalar.cmpi .slt v1147 c0_i32_855
  let v1152 : BitVec 1 := Scalar.xori v1150 v1151
  let c0_i32_853 : BitVec 32 := 0#32
  let v1149 : BitVec 1 := Scalar.cmpi .ne v1148 c0_i32_853
  let v1153 : BitVec 1 := Scalar.andi v1152 v1149
  let v1154 : BitVec 32 := Scalar.addi v1148 v1147
  let v1155 : BitVec 32 := Scalar.select v1153 v1154 v1148
  let c1_i32_859 : BitVec 32 := 1#32
  let v1157 : BitVec 32 := Scalar.muli v1155 c1_i32_859
  let v1158 : BitVec 32 := Scalar.addi c0_i32_860 v1157
  v1158.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x8192, .bf16⟩
  | .hbm, ⟨2, _⟩ => ⟨S256x8192, .bf16⟩
  | .hbm, ⟨3, _⟩ => ⟨S8192x256, .bf16⟩
  | .hbm, ⟨4, _⟩ => ⟨S256x256, .f32⟩
  | .hbm, ⟨5, _⟩ => ⟨S256x8192, .f32⟩
  | .hbm, ⟨6, _⟩ => ⟨S256x8192, .f32⟩
  | .hbm, ⟨7, _⟩ => ⟨S8192x256, .f32⟩
  | .hbm, ⟨8, _⟩ => ⟨S256x8192, .f32⟩
  | .hbm, ⟨9, _⟩ => ⟨S256x8192, .f32⟩
  | .hbm, ⟨10, _⟩ => ⟨S256x8192, .f32⟩
  | .hbm, ⟨11, _⟩ => ⟨S256x8192, .f32⟩
  | .hbm, ⟨12, _⟩ => ⟨S_, .f32⟩
  | .hbm, ⟨13, _⟩ => ⟨S256x8192, .f32⟩
  | .hbm, ⟨14, _⟩ => ⟨S256x8192, .f32⟩
  | .hbm, ⟨15, _⟩ => ⟨S256x8192, .f32⟩
  | .hbm, ⟨16, _⟩ => ⟨S256x8192, .f32⟩
  | .hbm, ⟨17, _⟩ => ⟨S256x256, .f32⟩
  | .hbm, ⟨18, _⟩ => ⟨S256x256, .bf16⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Prog.lean ====
/-
The kernel's body as one flat sequence of operations, each phase a fold over its list of ring offsets.

Device `c` addresses the peer at ring offset `o`, device `c + o` modulo 16. The body signals every peer's barrier
(far offsets first), computes its partial product, waits for its own fifteen barrier signals, sends row block `c + o`
of the partial product to every peer, adds up the fifteen row blocks it receives (near offsets first), sends the
reduced row block to every peer, waits for the fifteen reduced blocks, and last waits for its own thirty sends.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.Sem

variable {F : FTy → Type} [FloatOps F]

/-! ## Offsets and addresses -/

/-- The offsets in the order the sends take them: far first. -/
abbrev far : List (Fin 16) := [10, 6, 9, 7, 14, 2, 11, 5, 13, 3, 8, 12, 4, 15, 1]
/-- The offsets in the order the receiving waits take them: near first. -/
abbrev near : List (Fin 16) := [1, 15, 4, 12, 8, 3, 13, 5, 11, 2, 14, 7, 9, 6, 10]
/-- The offsets in the order the last waits take them. -/
abbrev asc : List (Fin 16) := [1, 2, 3, 4, 5, 6, 7, 8, 9, 10, 11, 12, 13, 14, 15]

/-- The logical id of the peer at offset `w`, in the words the kernel computes it by. -/
def peerWord (d : Dev nD) (w : BitVec 32) : BitVec 32 :=
  let v2 : BitVec 32 := Scalar.remsi (Scalar.divsi (Dev.word d) 1#32) 16#32
  let v6 : BitVec 32 := Scalar.select (Scalar.cmpi .eq 16#32 0#32) 1#32 16#32
  let v7 : BitVec 32 := Scalar.remsi (Scalar.addi v2 w) v6
  let v12 : BitVec 1 := Scalar.andi (Scalar.xori (Scalar.cmpi .slt v7 0#32) (Scalar.cmpi .slt v6 0#32)) (Scalar.cmpi .ne v7 0#32)
  Scalar.addi 0#32 (Scalar.muli (Scalar.select v12 (Scalar.addi v7 v6) v7) 1#32)

theorem peerWord_eq : ∀ (d : Dev nD) (o : Fin 16), (peerWord d (BitVec.ofNat 32 o.val)).toNat = (d + o).val := by decide +kernel

/-- The peer at offset `o` as the kernel addresses it. -/
def peerAt (d : Dev nD) (o : Fin 16) : Dev nD :=
  ⟨(peerWord d (BitVec.ofNat 32 o.val)).toNat, by rw [peerWord_eq]; exact (d + o).isLt⟩

/-- It is device `d + o`. -/
theorem peerAt_eq (d : Dev nD) (o : Fin 16) : peerAt d o = d + o := Fin.ext (peerWord_eq d o)

theorem off1_eq : ∀ (d : Dev nD) (o : Fin 16), k0_off1 d (BitVec.ofNat 32 o.val) = ![16 * (d + o).val, 0] := by decide +kernel

theorem off1_inb : ∀ (d : Dev nD) (o : Fin 16), ∀ a, (k0_off1 d (BitVec.ofNat 32 o.val)) a + S16x256.size a ≤ S256x256.size a := by decide +kernel
theorem off1_words : ∀ (d : Dev nD) (o : Fin 16), (Rect.unit (s := S256x256) (k0_off1 d (BitVec.ofNat 32 o.val)) S16x256.size (off1_inb d o)).WholeWords (EltTy.packing .bf16) := by decide +kernel
theorem slot_inb : ∀ (j : Fin 16), ∀ a, (![j.val, 0, 0] : Fin 3 → Nat) a + S1x16x256.size a ≤ S16x16x256.size a := by decide +kernel
theorem slot_words : ∀ (j : Fin 16), (Rect.unit (s := S16x16x256) ![j.val, 0, 0] S1x16x256.size (slot_inb j)).WholeWords (EltTy.packing .bf16) := by decide +kernel
theorem top_inb : ∀ a, (![0, 0] : Fin 2 → Nat) a + S16x256.size a ≤ S256x256.size a := by decide
theorem top_words : (Rect.unit (s := S256x256) ![0, 0] S16x256.size top_inb).WholeWords (EltTy.packing .bf16) := by decide
theorem sem_inb : ∀ (j : Fin 16), ∀ a, (![j.val] : Fin 1 → Nat) a + S1.size a ≤ S16.size a := by decide

/-! ## Buffers and windows -/

/-- The partial product. -/
abbrev pm : Memref sig .tc .vmem S256x256 .bf16 := Memref.whole cc0_scratch0
/-- The fifteen landing slots for the peers' partial row blocks (slot 0 unused). -/
abbrev lm : Memref sig .tc .vmem S16x16x256 .bf16 := Memref.whole cc0_scratch1
/-- The reduced row block. -/
abbrev gm : Memref sig .tc .vmem S16x256 .bf16 := Memref.whole cc0_scratch2
/-- The result. -/
abbrev om : Memref sig .tc .vmem S256x256 .bf16 := Memref.whole cc0_stg4_0
/-- The operands' staging buffers: the activations, the gate block, the up block, the down block. -/
abbrev xm : Memref sig .tc .vmem S256x256 .bf16 := Memref.whole cc0_stg0_0
abbrev am : Memref sig .tc .vmem S256x512 .bf16 := Memref.whole cc0_stg1_0
abbrev um : Memref sig .tc .vmem S256x512 .bf16 := Memref.whole cc0_stg2_0
abbrev dm : Memref sig .tc .vmem S512x256 .bf16 := Memref.whole cc0_stg3_0

/-- Row block `d + o` of a 256 × 256 buffer, at the offsets the kernel computes. -/
abbrev rowsAt (M : Memref sig .tc .vmem S256x256 .bf16) (d : Dev nD) (o : Fin 16) : Memref sig .tc .vmem S16x256 .bf16 :=
  M.slice (Rect.unit (s := S256x256) (k0_off1 d (BitVec.ofNat 32 o.val)) S16x256.size (off1_inb d o)) (fun _ => rfl)
/-- Row block `d` of the result, at the offsets the kernel computes. -/
abbrev rowsOwn (d : Dev nD) : Memref sig .tc .vmem S16x256 .bf16 :=
  om.slice (Rect.unit (s := S256x256) (k0_off3 d) S16x256.size (k0_off3_inb d)) (fun _ => rfl)
/-- Landing slot `j`. -/
abbrev slot (j : Fin 16) : Memref sig .tc .vmem S16x256 .bf16 :=
  (lm.slice (Rect.unit (s := S16x16x256) ![j.val, 0, 0] S1x16x256.size (slot_inb j)) (fun _ => rfl)).squeeze S16x256 squeezes_S1x16x256_S16x256
/-- The first sixteen rows of the partial product, which some waits name for their amount. -/
abbrev top : Memref sig .tc .vmem S16x256 .bf16 :=
  pm.slice (Rect.unit (s := S256x256) ![0, 0] S16x256.size top_inb) (fun _ => rfl)

theorem rowsAt_wordExact (M : Memref sig .tc .vmem S256x256 .bf16) (hM : M.IsWhole) (d : Dev nD) (o : Fin 16) : (rowsAt M d o).view.WordExact :=
  hM.wordExact_slice rfl _ (off1_words d o)
theorem rowsOwn_wordExact (d : Dev nD) : (rowsOwn d).view.WordExact :=
  (Memref.isWhole_whole _).wordExact_slice rfl _ (k0_off3_wordsbf16 d)
theorem slot_wordExact (j : Fin 16) : (slot j).view.WordExact :=
  ((Memref.isWhole_whole _).wordExact_slice rfl _ (slot_words j)).reshape _ _
theorem top_wordExact : top.view.WordExact := (Memref.isWhole_whole _).wordExact_slice rfl _ top_words
theorem gm_wordExact : gm.view.WordExact := (Memref.isWhole_whole _).wordExact

/-- Element `j` of an array of sixteen DMA semaphores. -/
abbrev semAt (A : DmaSems sig S16) (j : Fin 16) : DmaSem sig :=
  ((A.slice (Rect.unit (s := S16) ![j.val] S1.size (sem_inb j))).squeeze S_ squeezes_S1_S_).sem

/-! ## The operations -/

/-- Programs of the body. -/
abbrev P : Type _ := Prog (TpuEff nD τ sig (Elt F) Λ₀ .tc) PUnit

/-- Signal the barrier of the peer at offset `o`. -/
def pSignal (d : Dev nD) (o : Fin 16) (k : P (F := F)) : P (F := F) :=
  .op (.semSignal (Dev.tc (peerAt d o)) (sig.barrier 0 rfl) ((1 : ℕ) : ℤ)) fun _ => k

/-- Send row block `d + o` of the partial product to the peer at offset `o`, into its landing slot `-o`. -/
def pScatter (d : Dev nD) (o : Fin 16) (k : P (F := F)) : P (F := F) :=
  .op (.enqueueDma (rowsAt pm d o) (.remote (Dev.tc (peerAt d o)) (slot (-o)) (.dma (semAt cc0_scratch3 o))) (.dma (semAt cc0_scratch4 (-o)))
    (rowsAt_wordExact _ (Memref.isWhole_whole _) d o) (slot_wordExact (-o)) ⟨⟨rfl, Or.inl rfl⟩, trivial⟩) fun _ => k

/-- Wait for landing slot `j` and load it. -/
def pTake (j : Fin 16) (k : Vec F S1x16x256 .bf16 → P (F := F)) : P (F := F) :=
  .op (.waitDma2 (semAt cc0_scratch4 j) top (slot j) top_wordExact (slot_wordExact j)) fun _ =>
  .op (.load lm (Rect.unit (s := S16x16x256) ![j.val, 0, 0] S1x16x256.size (slot_inb j)).toLoadRect (View.loadsAt_vmem h_S1x16x256)) k

/-- Send the reduced row block to the peer at offset `o`, into row block `d` of its result. -/
def pGather (d : Dev nD) (o : Fin 16) (k : P (F := F)) : P (F := F) :=
  .op (.enqueueDma gm (.remote (Dev.tc (peerAt d o)) (rowsOwn d) (.dma (semAt cc0_scratch5 o))) (.dma (semAt cc0_scratch6 (-o)))
    gm_wordExact (rowsOwn_wordExact d) ⟨⟨rfl, Or.inl rfl⟩, trivial⟩) fun _ => k

/-- Wait for the reduced row block of the peer at offset `j`. -/
def pArrive (d : Dev nD) (j : Fin 16) (k : P (F := F)) : P (F := F) :=
  .op (.waitDma2 (semAt cc0_scratch6 j) gm (rowsAt om d j) gm_wordExact (rowsAt_wordExact _ (Memref.isWhole_whole _) d j)) fun _ => k

/-- Wait for the two sends at offset `o`. -/
def pDrain (o : Fin 16) (k : P (F := F)) : P (F := F) :=
  .op (.waitDma2 (semAt cc0_scratch3 o) (slot o) top (slot_wordExact o) top_wordExact) fun _ =>
  .op (.waitDma2 (semAt cc0_scratch5 o) (slot o) top (slot_wordExact o) top_wordExact) fun _ => k

/-- One landed block added to the running sum. -/
def accStep (acc : FVec F S16x256 .f32) (v : Vec F S1x16x256 .bf16) : FVec F S16x256 .f32 :=
  addf acc (extf .f32 (shapeCast S16x256 v shapeCasts_S1x16x256_S16x256) bitsLt_bf16_f32)

/-- Take the slots of a list in order, adding each to the running sum. -/
def pSum : List (Fin 16) → FVec F S16x256 .f32 → (FVec F S16x256 .f32 → P (F := F)) → P (F := F)
  | [], acc, k => k acc
  | j :: l, acc, k => pTake j fun v => pSum l (accStep acc v) k

/-- The whole body. -/
def flat : P (F := F) :=
  .op .deviceId fun (d : Dev nD) =>
  far.foldr (fun o k => pSignal d o k) <|
  .op (.load xm (Rect.unit (s := S256x256) ![0, 0] S256x256.size inb_S256x256_S256x256_0_0).toLoadRect (View.loadsAt_vmem h_S256x256)) fun (v0 : Vec F S256x256 .bf16) =>
  .op (.load am (Rect.unit (s := S256x512) ![0, 0] S256x512.size inb_S256x512_S256x512_0_0).toLoadRect (View.loadsAt_vmem h_S256x512)) fun (v1 : Vec F S256x512 .bf16) =>
  .op (.load um (Rect.unit (s := S256x512) ![0, 0] S256x512.size inb_S256x512_S256x512_0_0).toLoadRect (View.loadsAt_vmem h_S256x512)) fun (v2 : Vec F S256x512 .bf16) =>
  .op (.load dm (Rect.unit (s := S512x256) ![0, 0] S512x256.size inb_S512x256_S512x256_0_0).toLoadRect (View.loadsAt_vmem h_S512x256)) fun (v3 : Vec F S512x256 .bf16) =>
  .op (.load pm (Rect.unit (s := S256x256) ![0, 0] S256x256.size inb_S256x256_S256x256_0_0).toLoadRect (View.loadsAt_vmem h_S256x256)) fun (_ : Vec F S256x256 .bf16) =>
  .op (.store pm (Rect.unit (s := S256x256) ![0, 0] S256x256.size inb_S256x256_S256x256_0_0) (k0_pay1 v0 v1 v2 v3) Finset.univ
    (View.stores_vmem h_S256x256 ((Memref.isWhole_whole cc0_scratch0).storeExact_slice rfl _ packedbf16_S256x256_S256x256_0_0) (fun _ => rfl)) (.inl rfl)) fun _ =>
  .op (.semWait (sig.barrier 0 rfl) ((15 : ℕ) : ℤ)) fun _ =>
  far.foldr (fun o k => pScatter d o k) <|
  .op (.load pm (Rect.unit (s := S256x256) (k0_off2 d) S16x256.size (k0_off2_inb d)).toLoadRect (View.loadsAt_vmem h_S16x256)) fun (v4 : Vec F S16x256 .bf16) =>
  pSum near (extf .f32 v4 bitsLt_bf16_f32) fun acc =>
  .op (.load gm (Rect.unit (s := S16x256) ![0, 0] S16x256.size inb_S16x256_S16x256_0_0).toLoadRect (View.loadsAt_vmem h_S16x256)) fun (_ : Vec F S16x256 .bf16) =>
  .op (.store gm (Rect.unit (s := S16x256) ![0, 0] S16x256.size inb_S16x256_S16x256_0_0)
    (shapeCast S16x256 (truncf .bf16 acc bitsLt_bf16_f32) shapeCasts_S16x256_S16x256) Finset.univ
    (View.stores_vmem h_S16x256 ((Memref.isWhole_whole cc0_scratch2).storeExact_slice rfl _ packedbf16_S16x256_S16x256_0_0) (fun _ => rfl)) (.inl rfl)) fun _ =>
  .op (.load gm (Rect.unit (s := S16x256) ![0, 0] S16x256.size inb_S16x256_S16x256_0_0).toLoadRect (View.loadsAt_vmem h_S16x256)) fun (v5 : Vec F S16x256 .bf16) =>
  .op (.load om (Rect.unit (s := S256x256) (k0_off2 d) S16x256.size (k0_off2_inb d)).toLoadRect (View.loadsAt_vmem h_S16x256)) fun (_ : Vec F S16x256 .bf16) =>
  .op (.store om (Rect.unit (s := S256x256) (k0_off2 d) S16x256.size (k0_off2_inb d)) v5 Finset.univ
    (View.stores_vmem h_S16x256 ((Memref.isWhole_whole cc0_stg4_0).storeExact_slice rfl _ (k0_off2_packedbf16 d)) (fun _ => rfl)) (.inl rfl)) fun _ =>
  far.foldr (fun o k => pGather d o k) <|
  near.foldr (fun j k => pArrive d j k) <|
  asc.foldr (fun o k => pDrain o k) <|
  .ret ⟨⟩

set_option maxRecDepth 65536 in
/-- The printed body, on the buffers it is called with, is the flat sequence. -/
theorem body_eq_flat (t : Fin cfg0.N) : bodyAt0 (F := F) t = flat (F := F) := rfl

end Cert.Mlp

end
-- ==== Proof.Protocol.lean ====
/-
The protocol of the sixteen devices.

Every device has one barrier cell and, for every ring offset, four transfer cells: the scatter's send and receive cells
and the gather's send and receive cells. Each cell is used for one round.

* Barrier cell of `t`: the peer `t + d` signals it once (duty `d`), which hands `t` the peer's landing slot `-d` and row
  block `t` of the peer's result, at any contents. `t` waits for all fifteen.
* Scatter, `c` to `c + o`: row block `c + o` of `c`'s partial product is copied to landing slot `-o` of `c + o`. The
  send cell returns the source rows, the receive cell hands over the slot holding those rows.
* Gather, `c` to `c + o`: `c`'s reduced block is copied to row block `c` of the result of `c + o`. The send cell returns
  a share of the reduced block, the receive cell hands over the row block holding the reduced block of `c`.
-/
module

public import proofs.«01_k».proof.Proof.Prog
public import Idealize.ShloMosaic.Lib.Ring.Tabled
public import Idealize.ShloMosaic.Lib.Pipeline.BigSepL

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rounds' component of the ghost state: duties are named by ring offsets. -/
abbrev UB : Type := URounds (GSem nD τ sig) (Fin 16)
/-- The ghost state: the pipeline's component and the rounds'. -/
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Offsets around the ring -/

theorem add_back : ∀ (c : Dev nD) (o : Fin 16), c + o + -o = c := by decide +kernel
theorem neg_neg16 : ∀ o : Fin 16, - -o = o := by decide
theorem neg_ne : ∀ o : Fin 16, o ≠ 0 → -o ≠ 0 := by decide

/-- A list of all offsets but 0, each once. -/
structure Offs (l : List (Fin 16)) : Prop where
  all : (Finset.univ : Finset (Fin 16)) = (0 :: l).toFinset
  nodup : (0 :: l).Nodup

theorem far_offs : Offs far := ⟨by decide, by decide⟩
theorem near_offs : Offs near := ⟨by decide, by decide⟩
theorem asc_offs : Offs asc := ⟨by decide, by decide⟩

theorem Offs.ne {l : List (Fin 16)} (h : Offs l) : ∀ o ∈ l, o ≠ 0 := fun o ho h0 =>
  (List.nodup_cons.mp h.nodup).1 (h0 ▸ ho)

theorem Offs.erase {l : List (Fin 16)} (h : Offs l) : (Finset.univ : Finset (Fin 16)).erase 0 = l.toFinset := by
  rw [h.all, List.toFinset_cons, Finset.erase_insert]
  rw [List.mem_toFinset]; exact (List.nodup_cons.mp h.nodup).1

/-- Something held at every offset is held at 0 and along the list. -/
theorem Offs.split {M : Type} [URA M] {l : List (Fin 16)} (h : Offs l) (Φ : Fin 16 → sProp M) :
    bigSep Finset.univ Φ = iprop(Φ 0 ∗ bigSepL l Φ) := by
  rw [bigSep_univ_eq_bigSepL (0 :: l) h.all h.nodup, bigSepL_cons']

theorem Offs.rest {M : Type} [URA M] {l : List (Fin 16)} (h : Offs l) (Φ : Fin 16 → sProp M) :
    bigSep (Finset.univ.erase 0) Φ = bigSepL l Φ :=
  bigSep_eq_bigSepL_of_eq l h.erase (List.nodup_cons.mp h.nodup).2 Φ

/-- Two lists of the offsets hold the same things. -/
theorem Offs.swap {M : Type} [URA M] {l l' : List (Fin 16)} (h : Offs l) (h' : Offs l') (Φ : Fin 16 → sProp M) :
    bigSepL l Φ = bigSepL l' Φ := by rw [← h.rest, h'.rest]

theorem bigSepL_sep {M : Type} [URA M] {I : Type} (l : List I) (Φ Ψ : I → sProp M) :
    bigSepL l (fun i => iprop(Φ i ∗ Ψ i)) = iprop(bigSepL l Φ ∗ bigSepL l Ψ) := by
  classical
  induction l with
  | nil => exact (equiv_iff.mp emp_sep).symm
  | cons i l ih =>
    rw [bigSepL_cons', bigSepL_cons', bigSepL_cons', ih]
    refine equiv_iff.mp ⟨?_, ?_⟩
    · show iprop((Φ i ∗ Ψ i) ∗ bigSepL l Φ ∗ bigSepL l Ψ) ⊢ iprop((Φ i ∗ bigSepL l Φ) ∗ Ψ i ∗ bigSepL l Ψ)
      iintro ⟨⟨H1, H2⟩, H3, H4⟩
      isplitl [H1 H3]
      · isplitl [H1] <;> iassumption
      · isplitl [H2] <;> iassumption
    · show iprop((Φ i ∗ bigSepL l Φ) ∗ Ψ i ∗ bigSepL l Ψ) ⊢ iprop((Φ i ∗ Ψ i) ∗ bigSepL l Φ ∗ bigSepL l Ψ)
      iintro ⟨⟨H1, H3⟩, H2, H4⟩
      isplitl [H1 H2]
      · isplitl [H1] <;> iassumption
      · isplitl [H3] <;> iassumption

/-! ## Cells -/

/-- A device's cells: its barrier (`none`) and, by array and offset, its transfer cells — array 0 the scatter's sends,
    1 the scatter's receives, 2 the gather's sends, 3 the gather's receives. -/
abbrev Cell : Type := Option (Fin 4 × Fin 16)

/-- The four arrays of transfer semaphores. -/
def arr : Fin 4 → DmaSems sig S16
  | 0 => cc0_scratch3 | 1 => cc0_scratch4 | 2 => cc0_scratch5 | 3 => cc0_scratch6

/-- The transfer semaphores, as the launch indexes them. -/
abbrev osem (x : Fin 4 × Fin 16) : SemLoc sig := .dma (semAt (arr x.1) x.2)
/-- All of a device's semaphores the protocol uses. -/
def csem : Cell → SemLoc sig
  | none => .reg (sig.barrier 0 rfl)
  | some x => osem x

abbrev barCell (c : Dev nD) : GSem nD τ sig := ((c : Thread nD τ), .reg (sig.barrier 0 rfl))
abbrev xCell (a : Fin 4) (c : Dev nD) (o : Fin 16) : GSem nD τ sig := ((c : Thread nD τ), osem (a, o))
abbrev kcell (ck : Dev nD × Cell) : GSem nD τ sig := ((ck.1 : Thread nD τ), csem ck.2)

/-- Which of a device's cells a semaphore is. -/
def kind : SemLoc sig → Option Cell
  | .reg s => if s = sig.barrier 0 rfl then some none else none
  | .dma q => if h : 5 ≤ q.val then some (some (⟨(q.val - 5) / 16 % 4, Nat.mod_lt _ (by decide)⟩, ⟨(q.val - 5) % 16, Nat.mod_lt _ (by decide)⟩)) else none

theorem kind_bar : kind (.reg (sig.barrier 0 rfl)) = some none := by dsimp only [kind]; rw [if_pos rfl]
theorem kind_dma : ∀ (a : Fin 4) (o : Fin 16), kind (osem (a, o)) = some (some (a, o)) := by decide +kernel
theorem kind_csem : ∀ k : Cell, kind (csem k) = some k
  | none => kind_bar
  | some (a, o) => kind_dma a o

theorem csem_injective : Function.Injective csem := fun k k' h =>
  Option.some.inj ((kind_csem k).symm.trans ((congrArg kind h).trans (kind_csem k')))
theorem kcell_injective : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_injective h2]
theorem osem_injective : Function.Injective osem := fun x y h => Option.some.inj (csem_injective (show csem (some x) = csem (some y) from h))

theorem xCell_eq_iff {a : Fin 4} {c c' : Dev nD} {o o' : Fin 16} : xCell a c o = xCell a c' o' ↔ c = c' ∧ o = o' := by
  constructor
  · intro h
    have := kcell_injective (a₁ := (c, some (a, o))) (a₂ := (c', some (a, o'))) h
    simpa using this
  · rintro ⟨rfl, rfl⟩; rfl
theorem barCell_eq_iff {c c' : Dev nD} : barCell c = barCell c' ↔ c = c' := by
  constructor
  · intro h
    have := kcell_injective (a₁ := (c, none)) (a₂ := (c', none)) h
    simpa using this
  · rintro rfl; rfl

/-- The credit of one transfer: sixteen rows of 256 entries. -/
abbrev N : ℕ := gm.view.dmaCredit
theorem N_pos : 0 < N := View.dmaCredit_pos _ (by decide)

/-! ## Windows -/

theorem row_inb : ∀ (b : Fin 16), ∀ a, (![16 * b.val, 0] : Fin 2 → Nat) a + S16x256.size a ≤ S256x256.size a := by decide +kernel

/-- The rectangle of row block `b`. -/
abbrev rowRect (b : Fin 16) : Rect S256x256 := Rect.unit (s := S256x256) ![16 * b.val, 0] S16x256.size (row_inb b)
/-- The rectangle of landing slot `j`. -/
abbrev slotRect (j : Fin 16) : Rect S16x16x256 := Rect.unit (s := S16x16x256) ![j.val, 0, 0] S1x16x256.size (slot_inb j)
/-- Row block `b` of a 256 × 256 buffer. -/
abbrev rowsW (M : Memref sig .tc .vmem S256x256 .bf16) (b : Fin 16) : Memref sig .tc .vmem S16x256 .bf16 :=
  M.slice (rowRect b) (fun _ => rfl)

theorem slice_congr (M : Memref sig .tc .vmem S256x256 .bf16) {off off' : Fin 2 → Nat} (h : off = off')
    (p : ∀ a, off a + S16x256.size a ≤ S256x256.size a) (p' : ∀ a, off' a + S16x256.size a ≤ S256x256.size a) :
    M.slice (Rect.unit (s := S256x256) off S16x256.size p) (fun _ => rfl)
      = M.slice (Rect.unit (s := S256x256) off' S16x256.size p') (fun _ => rfl) := by subst h; rfl
theorem rowsAt_eq (M : Memref sig .tc .vmem S256x256 .bf16) (d : Dev nD) (o : Fin 16) : rowsAt M d o = rowsW M (d + o) :=
  slice_congr M (off1_eq d o) _ _
theorem rowsOwn_eq (d : Dev nD) : rowsOwn d = rowsW om d := slice_congr om (k0_off3_eq d) _ _

/-- Row block `b` of contents. -/
abbrev rowsOf {α : Type} (X : S256x256.Idx → α) (b : Fin 16) : S16x256.Idx → α := fun j => X ((rowRect b).emb j)

/-! ## Contents -/

variable (m : (ℓ : Loc nD τ sig) → Buf (Elt F) ℓ)

/-- Device `c`'s partial product: the down block applied to the gated activations of its own block of columns. -/
def part (c : Dev nD) : FVec F S256x256 .bf16 :=
  k0_pay1 (iblk m c 0 t0_0) (iblk m c 1 t0_0) (iblk m c 2 t0_0) (iblk m c 3 t0_0)

/-- Device `c`'s reduced row block: row block `c` of its own partial product and of the fifteen others, added near
    offsets first. -/
def red (c : Dev nD) : FVec F S16x256 .bf16 :=
  truncf .bf16 (near.foldl (fun acc j => addf acc (extf .f32 (rowsOf (part m (c + j)) c : FVec F S16x256 .bf16) bitsLt_bf16_f32))
    (extf .f32 (rowsOf (part m c) c : FVec F S16x256 .bf16) bitsLt_bf16_f32)) bitsLt_bf16_f32

/-- The shares of the reduced block, one per offset. -/
abbrev sh (o : Fin 16) : PosShare TreeShare := Ring.sharesN 16 fullShare o

/-! ## The schedule -/

/-- A window held whole, at any contents. -/
def anyOwn (c : Dev nD) {sp : Space} {s : Shape} {e : EltTy} (M : Memref sig .tc sp s e) : sProp 𝕄 :=
  iprop(∃ X, owns (c : Thread nD τ) M fullShare X)

/-- What duty `d` of `t`'s barrier cell hands over. -/
def barPay (t : Dev nD) (d : Fin 16) : sProp 𝕄 := iprop(anyOwn (t + d) (slot (-d)) ∗ anyOwn (t + d) (rowsW om t))

/-- What the transfer cell of array `a` at offset `j` hands device `c`. -/
def xPay (a : Fin 4) (c : Dev nD) (j : Fin 16) : sProp 𝕄 := match a with
  | 0 => owns (c : Thread nD τ) (rowsW pm (c + j)) fullShare (rowsOf (part m c) (c + j))
  | 1 => owns (c : Thread nD τ) (slot j) fullShare (rowsOf (part m (c + j)) c)
  | 2 => owns (c : Thread nD τ) gm (sh j) (red m c)
  | 3 => owns (c : Thread nD τ) (rowsW om (c + j)) fullShare (red m (c + j))

/-- A transfer cell's duties: one, except at offset 0, which no device uses. -/
def duty (k : Cell) : Finset (Fin 16) := match k with
  | none => Finset.univ.erase 0
  | some (_, o) => if o = 0 then ∅ else {0}

/-- One round, round 0. -/
def Rd : Rounds.Schedule (GSem nD τ sig) (Fin 16) 𝕄 where
  duties g r := if r = 0 ∧ g.1.2 = .tc then (match kind g.2 with | some k => duty k | none => ∅) else ∅
  unitless _ := False
  amount g _ _ := match kind g.2 with | some none => 1 | _ => N
  payload g _ d := match kind g.2 with
    | some none => barPay g.1.1 d
    | some (some (a, j)) => xPay m a g.1.1 j
    | none => iprop(emp)
  amount_pos g _ _ _ := by split <;> first | exact Nat.one_pos | exact N_pos

instance anyOwn_storable (c : Dev nD) {sp : Space} {s : Shape} {e : EltTy} (M : Memref sig .tc sp s e) :
    BI.Storable (upEmb : UEmb _ 𝕄) (anyOwn (F := F) c M) := by unfold anyOwn; infer_instance
instance xPay_storable (a : Fin 4) (c : Dev nD) (j : Fin 16) : BI.Storable (upEmb : UEmb _ 𝕄) (xPay (F := F) m a c j) := by
  unfold xPay; split <;> infer_instance
instance Rd_payload_storable (g : GSem nD τ sig) (r : ℕ) (d : Fin 16) : BI.Storable (upEmb : UEmb _ 𝕄) ((Rd (F := F) m).payload g r d) := by
  show BI.Storable upEmb (match kind g.2 with
    | some none => barPay g.1.1 d
    | some (some (a, j)) => xPay m a g.1.1 j
    | none => iprop(emp))
  unfold barPay
  split <;> infer_instance

section Sched
variable (c : Dev nD)

theorem duties_cell (k : Cell) : (Rd (F := F) m).duties (kcell (c, k)) 0 = duty k := by
  dsimp only [Rd]; rw [if_pos ⟨rfl, rfl⟩, kind_csem]
theorem duties_bar : (Rd (F := F) m).duties (barCell c) 0 = Finset.univ.erase 0 := duties_cell m c none
theorem duties_x (a : Fin 4) (o : Fin 16) (ho : o ≠ 0) : (Rd (F := F) m).duties (xCell a c o) 0 = {0} :=
  (duties_cell m c (some (a, o))).trans (if_neg ho)
theorem duties_x0 (a : Fin 4) (r : ℕ) : (Rd (F := F) m).duties (xCell a c 0) r = ∅ := by
  dsimp only [Rd]
  rw [kind_dma]
  split <;> rfl
theorem duties_later (g : GSem nD τ sig) : ∀ r, 1 ≤ r → (Rd (F := F) m).duties g r = ∅ :=
  fun r hr => by dsimp only [Rd]; rw [if_neg fun h => by omega]

theorem amount_bar (d : Fin 16) : (Rd (F := F) m).amount (barCell c) 0 d = 1 := by dsimp only [Rd]; rw [kind_bar]
theorem amount_x (a : Fin 4) (o d : Fin 16) : (Rd (F := F) m).amount (xCell a c o) 0 d = N := by dsimp only [Rd]; rw [kind_dma]
theorem payload_bar (d : Fin 16) : (Rd (F := F) m).payload (barCell c) 0 d = barPay c d := by dsimp only [Rd]; rw [kind_bar]
theorem payload_x (a : Fin 4) (o d : Fin 16) : (Rd (F := F) m).payload (xCell a c o) 0 d = xPay m a c o := by
  dsimp only [Rd]; rw [kind_dma]

theorem expect_bar : (Rd (F := F) m).expect (barCell c) 0 = 15 := by
  unfold Schedule.expect Schedule.amountOf
  rw [duties_bar, Finset.sum_congr rfl fun d _ => amount_bar m c d]; rfl
theorem expect_x (a : Fin 4) (o : Fin 16) (ho : o ≠ 0) : (Rd (F := F) m).expect (xCell a c o) 0 = N := by
  unfold Schedule.expect Schedule.amountOf; rw [duties_x m c a o ho, Finset.sum_singleton, amount_x]

theorem rest_bar : bigSep ((Rd (F := F) m).duties (barCell c) 0 \ ∅) (fun d => (Rd (F := F) m).payload (barCell c) 0 d)
    = bigSepL far (fun d => barPay c d) := by
  rw [Finset.sdiff_empty, duties_bar, far_offs.rest, funext (payload_bar m c)]
theorem rest_x (a : Fin 4) (o : Fin 16) (ho : o ≠ 0) :
    bigSep ((Rd (F := F) m).duties (xCell a c o) 0 \ ∅) (fun d => (Rd (F := F) m).payload (xCell a c o) 0 d) = xPay m a c o := by
  rw [Finset.sdiff_empty, duties_x m c a o ho, bigSep_singleton, payload_x]

end Sched

/-! ## What each device owes; the levels -/

/-- `n` units owed to each of the cells `g o`, `o` along the list. -/
def dues (g : Fin 16 → GSem nD τ sig) (n : ℕ) : List (Fin 16) → CellTallies nD τ sig Unit
  | [] => 0
  | o :: l => dues g n l + tallyAt (g o) () n

/-- What a device owes the gather's receive cells, the scatter's receive cells, the barrier cells. -/
abbrev duesAg (c : Dev nD) (l : List (Fin 16)) : CellTallies nD τ sig Unit := dues (fun o => xCell 3 (c + o) (-o)) N l
abbrev duesRs (c : Dev nD) (l : List (Fin 16)) : CellTallies nD τ sig Unit := dues (fun o => xCell 1 (c + o) (-o)) N l
abbrev duesBar (c : Dev nD) (l : List (Fin 16)) : CellTallies nD τ sig Unit := dues (fun o => barCell (c + o)) 1 l
/-- What it owes at launch. -/
def O₀ (c : Dev nD) : CellTallies nD τ sig Unit := duesAg c far + duesRs c far + duesBar c far

theorem dues_apply (g : Fin 16 → GSem nD τ sig) (n : ℕ) (g' : GSem nD τ sig) (u : Unit) (l : List (Fin 16)) :
    dues g n l g' u = l.countP (fun o => decide (g' = g o)) * n := by
  induction l with
  | nil => rw [List.countP_nil, Nat.zero_mul]; rfl
  | cons o l ih =>
    rw [dues, Pi.add_apply, Finsupp.add_apply, ih, tallyAt_apply, List.countP_cons, Nat.add_mul]
    congr 1
    by_cases h : g' = g o
    · rw [if_pos ⟨h, Subsingleton.elim _ _⟩, if_pos (decide_eq_true h), Nat.one_mul]
    · rw [if_neg (fun h' => h h'.1), if_neg (by simpa using h), Nat.zero_mul]

theorem dues_pos {g : Fin 16 → GSem nD τ sig} {n : ℕ} {g' : GSem nD τ sig} {u : Unit} {l : List (Fin 16)}
    (h : 0 < dues g n l g' u) : ∃ o, g' = g o := by
  rw [dues_apply] at h
  have h' := Nat.pos_of_mul_pos_right h
  obtain ⟨o, _, ho⟩ := List.countP_pos_iff.mp h'
  exact ⟨o, of_decide_eq_true ho⟩

/-- The indices a cell's credit has. -/
def L (g : GSem nD τ sig) : Finset Unit := if g.1.2 = .tc then {()} else ∅
/-- Levels: barrier cells 1, the scatter's receive cells 2, the gather's 3, every other cell 0. -/
def lv (g : GSem nD τ sig) (_ : Unit) : ℕ := match kind g.2 with
  | some none => 1
  | some (some (a, _)) => if a = 1 then 2 else if a = 3 then 3 else 0
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_x (a : Fin 4) (c : Dev nD) (o : Fin 16) (u : Unit) :
    lv (xCell a c o) u = if a = 1 then 2 else if a = 3 then 3 else 0 := by dsimp only [lv]; rw [kind_dma]

/-- A device may wait at a cell below everything it owes. -/
theorem mayWait_of (c : Dev nD) (sm : SemLoc sig) (b : ℕ) (O : CellTallies nD τ sig Unit) (hsm : lv ((c : Thread nD τ), sm) () ≤ b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm) (fun g u hg => (hO g u hg).2)

theorem duesAg_lv {c : Dev nD} {l : List (Fin 16)} {g : GSem nD τ sig} {u : Unit} (h : 0 < duesAg c l g u) : g.1.2 = .tc ∧ 2 < lv g u := by
  obtain ⟨o, rfl⟩ := dues_pos h
  exact ⟨rfl, by rw [lv_x]; decide⟩
theorem duesRs_lv {c : Dev nD} {l : List (Fin 16)} {g : GSem nD τ sig} {u : Unit} (h : 0 < duesRs c l g u) : g.1.2 = .tc ∧ 1 < lv g u := by
  obtain ⟨o, rfl⟩ := dues_pos h
  exact ⟨rfl, by rw [lv_x]; decide⟩
theorem duesBar_lv {c : Dev nD} {l : List (Fin 16)} {g : GSem nD τ sig} {u : Unit} (h : 0 < duesBar c l g u) : g.1.2 = .tc ∧ 0 < lv g u := by
  obtain ⟨o, rfl⟩ := dues_pos h
  exact ⟨rfl, by rw [lv_bar]; decide⟩

theorem add_pos_cases {A B : CellTallies nD τ sig Unit} {g : GSem nD τ sig} {u : Unit} (h : 0 < (A + B) g u) : 0 < A g u ∨ 0 < B g u := by
  rw [Pi.add_apply, Finsupp.add_apply] at h; omega

theorem mayWait_bar (c : Dev nD) (l l' : List (Fin 16)) :
    (levAts L lv : sProp 𝕄) ⊢ MayWait (c : Thread nD τ) (.reg (sig.barrier 0 rfl)) () (duesAg c l + duesRs c l') :=
  mayWait_of c _ 1 _ (le_of_eq (lv_bar c ())) fun g u h => by
    rcases add_pos_cases h with h | h
    · exact ⟨(duesAg_lv h).1, lt_trans (by decide) (duesAg_lv h).2⟩
    · exact duesRs_lv h
theorem mayWait_rs (c : Dev nD) (o : Fin 16) (l : List (Fin 16)) :
    (levAts L lv : sProp 𝕄) ⊢ MayWait (c : Thread nD τ) (osem (1, o)) () (duesAg c l) :=
  mayWait_of c _ 2 _ (le_of_eq (lv_x 1 c o ())) fun g u h => duesAg_lv h
theorem mayWait_zero (c : Dev nD) (sm : SemLoc sig) : (levAts L lv : sProp 𝕄) ⊢ MayWait (c : Thread nD τ) sm () 0 := by
  rw [MayWait_zero]; iintro -; iempintro
/-- A staging cell is below everything owed. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by dsimp only [lv]; rw [hq]) fun g u h => ?_
    unfold O₀ at h
    rcases add_pos_cases h with h | h
    · rcases add_pos_cases h with h | h
      · exact ⟨(duesAg_lv h).1, lt_trans (by decide) (duesAg_lv h).2⟩
      · exact ⟨(duesRs_lv h).1, lt_trans (by decide) (duesRs_lv h).2⟩
    · exact duesBar_lv h
  · exact mayWait_zero c _

end Cert.Mlp

end
-- ==== Proof.Windows.lean ====
/-
The buffers cut into the windows the protocol hands around, and put together again: the partial product and the result
into sixteen row blocks, the landing buffer into sixteen slots, the reduced block into sixteen shares.
-/
module

public import proofs.«01_k».proof.Proof.Protocol

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles -/

theorem rowRect_disjoint (b b' : Fin 16) (h : b ≠ b') : Disjoint (rowRect b).set (rowRect b').set :=
  Rect.unit_disjoint 0 (by
    have := fun e => h (Fin.ext e)
    show 16 * b.val + 16 ≤ 16 * b'.val ∨ 16 * b'.val + 16 ≤ 16 * b.val
    omega)

theorem rowRect_cover : (Finset.univ : Finset (Fin 16)).biUnion (fun b => (rowRect b).set) = Finset.univ :=
  Finset.eq_univ_of_forall fun i => Finset.mem_biUnion.mpr ⟨⟨(i 0).val / 16, by have : (i 0).val < 256 := (i 0).isLt; omega⟩, Finset.mem_univ _,
    Rect.mem_set_unit.mpr fun a => by
      have h0 : (i 0).val < 256 := (i 0).isLt
      have h1 : (i 1).val < 256 := (i 1).isLt
      fin_cases a
      · show 16 * ((i 0).val / 16) ≤ (i 0).val ∧ (i 0).val < 16 * ((i 0).val / 16) + 16
        omega
      · show 0 ≤ (i 1).val ∧ (i 1).val < 0 + 256
        omega⟩

theorem slotRect_disjoint (b b' : Fin 16) (h : b ≠ b') : Disjoint (slotRect b).set (slotRect b').set :=
  Rect.unit_disjoint 0 (by
    have := fun e => h (Fin.ext e)
    show b.val + 1 ≤ b'.val ∨ b'.val + 1 ≤ b.val
    omega)

theorem slotRect_cover : (Finset.univ : Finset (Fin 16)).biUnion (fun j => (slotRect j).set) = Finset.univ :=
  Finset.eq_univ_of_forall fun i => Finset.mem_biUnion.mpr ⟨⟨(i 0).val, (i 0).isLt⟩, Finset.mem_univ _,
    Rect.mem_set_unit.mpr fun a => by
      have h1 : (i 1).val < 16 := (i 1).isLt
      have h2 : (i 2).val < 256 := (i 2).isLt
      fin_cases a
      · show (i 0).val ≤ (i 0).val ∧ (i 0).val < (i 0).val + 1
        omega
      · show 0 ≤ (i 1).val ∧ (i 1).val < 0 + 16
        omega
      · show 0 ≤ (i 2).val ∧ (i 2).val < 0 + 256
        omega⟩

/-- The 256 × 256 array whose row block `b` is `Y b`. -/
def ofRows {α : Type} (Y : Fin 16 → S16x256.Idx → α) : S256x256.Idx → α := Rect.glue rowRect rowRect_cover Y

theorem rowsOf_ofRows {α : Type} (Y : Fin 16 → S16x256.Idx → α) (b : Fin 16) : rowsOf (ofRows Y) b = Y b :=
  funext fun j => Rect.glue_emb rowRect rowRect_cover rowRect_disjoint Y b j

/-! ## Blocks from a device on -/

theorem add_zero16 : ∀ c : Dev nD, c + 0 = c := by decide +kernel
theorem from_left : ∀ (c : Dev nD) (o : Fin 16), c + o - c = o := by decide +kernel
theorem from_right : ∀ (c : Dev nD) (b : Fin 16), c + (b - c) = b := by decide +kernel

/-- The block at offset `o` from device `c`. -/
def fromDev (c : Dev nD) : Fin 16 ≃ Fin 16 := ⟨fun o => c + o, fun b => b - c, from_left c, from_right c⟩

/-- Something held of every block is held of the device's own and of the others along the list. -/
theorem Offs.around {M : Type} [URA M] {l : List (Fin 16)} (h : Offs l) (c : Dev nD) (Φ : Fin 16 → sProp M) :
    bigSep Finset.univ Φ = iprop(Φ c ∗ bigSepL l fun o => Φ (c + o)) := by
  rw [bigSep_univ_equiv (fromDev c) Φ, h.split]
  show iprop(Φ (c + 0) ∗ _) = _
  rw [add_zero16]; rfl

/-! ## Row blocks -/

section Rows
variable (c : Dev nD) (M : Memref sig .tc .vmem S256x256 .bf16)

theorem rows_split {l : List (Fin 16)} (h : Offs l) (X : S256x256.Idx → Elt F .bf16) :
    (owns (c : Thread nD τ) M fullShare X : sProp 𝕄)
      ⊢ iprop(owns (c : Thread nD τ) (rowsW M c) fullShare (rowsOf X c) ∗ bigSepL l fun o => owns (c : Thread nD τ) (rowsW M (c + o)) fullShare (rowsOf X (c + o))) :=
  (owns_rects (c : Thread nD τ) M fullShare rowRect (fun _ _ => rfl) rowRect_disjoint rowRect_cover X).trans
    (Entails.of_eq (h.around c fun b => owns (c : Thread nD τ) (rowsW M b) fullShare (rowsOf X b)))

theorem rows_join {l : List (Fin 16)} (h : Offs l) (X : S256x256.Idx → Elt F .bf16) :
    iprop(owns (c : Thread nD τ) (rowsW M c) fullShare (rowsOf X c) ∗ bigSepL l fun o => owns (c : Thread nD τ) (rowsW M (c + o)) fullShare (rowsOf X (c + o)))
      ⊢ (owns (c : Thread nD τ) M fullShare X : sProp 𝕄) :=
  (Entails.of_eq (h.around c fun b => owns (c : Thread nD τ) (rowsW M b) fullShare (rowsOf X b)).symm).trans
    (owns_of_rects (c : Thread nD τ) M fullShare rowRect (fun _ _ => rfl) rowRect_disjoint rowRect_cover X)

/-- Known contents are some contents. -/
theorem anyOwn_intro {sp : Space} {s : Shape} {e : EltTy} (W : Memref sig .tc sp s e) (X : s.Idx → Elt F e) :
    (owns (c : Thread nD τ) W fullShare X : sProp 𝕄) ⊢ anyOwn c W := by
  unfold anyOwn; iintro H; iexists X; iexact H

/-- Sixteen row blocks holding `Y` are the whole holding them. -/
theorem rows_join_of {l : List (Fin 16)} (h : Offs l) (Y : Fin 16 → S16x256.Idx → Elt F .bf16) :
    iprop(owns (c : Thread nD τ) (rowsW M c) fullShare (Y c) ∗ bigSepL l fun o => owns (c : Thread nD τ) (rowsW M (c + o)) fullShare (Y (c + o)))
      ⊢ (owns (c : Thread nD τ) M fullShare (ofRows Y) : sProp 𝕄) := by
  refine Entails.trans (Entails.of_eq ?_) (rows_join c M h (ofRows Y))
  simp only [rowsOf_ofRows]

end Rows

/-! ## Landing slots -/

/-- A slot's elements are its rectangle's. -/
theorem slot_any (c : Dev nD) (j : Fin 16) :
    (anyOwn c (lm.slice (slotRect j) (fun _ => rfl)) : sProp 𝕄) = anyOwn c (slot j) := by
  have hs : (slot j).view.set = (lm.slice (slotRect j) (fun _ => rfl)).view.set := View.set_reshape _ _
  unfold anyOwn owns
  refine equiv_iff.mp ⟨?_, ?_⟩
  · show (iprop(∃ X f, ⌜_⌝ ∗ _) : sProp 𝕄) ⊢ iprop(∃ X f, ⌜_⌝ ∗ _)
    iintro ⟨%X, %f, -, H⟩
    iexists _, f
    isplitr; · ipureintro; rfl
    rw [hs]; iexact H
  · show (iprop(∃ X f, ⌜_⌝ ∗ _) : sProp 𝕄) ⊢ iprop(∃ X f, ⌜_⌝ ∗ _)
    iintro ⟨%X, %f, -, H⟩
    iexists _, f
    isplitr; · ipureintro; rfl
    rw [← hs]; iexact H

theorem slots_split (c : Dev nD) (f : Buf (Elt F) ((c : Thread nD τ).loc cc0_scratch1)) :
    (((c : Thread nD τ).loc cc0_scratch1) ↦{fullShare} f : sProp 𝕄) ⊢ bigSep Finset.univ fun j : Fin 16 => anyOwn c (slot j) := by
  refine (Entails.of_eq (owns_whole (c : Thread nD τ) cc0_scratch1 fullShare f).symm).trans
    ((owns_rects (c : Thread nD τ) lm fullShare slotRect (fun _ _ => rfl) slotRect_disjoint slotRect_cover f).trans ?_)
  exact bigSep_mono fun j _ => (anyOwn_intro c _ _).trans (Entails.of_eq (slot_any c j))

theorem slots_join (c : Dev nD) :
    (bigSep Finset.univ fun j : Fin 16 => anyOwn c (slot j) : sProp 𝕄) ⊢ iprop(∃ f, ((c : Thread nD τ).loc cc0_scratch1) ↦{fullShare} f) := by
  refine (bigSep_mono fun j _ => Entails.of_eq (slot_any c j).symm).trans ?_
  unfold anyOwn
  haveI : ∀ i : Fin 16, Nonempty ((slotRect i).shape.Idx → Elt F .bf16) := fun _ => ⟨fun _ => Classical.choice (Elt.nonempty F _)⟩
  refine (BI.bigSep_exists_pi Finset.univ (fun (j : Fin 16) X => owns (c : Thread nD τ) (lm.slice (slotRect j) (fun _ => rfl)) fullShare X)).trans ?_
  iintro ⟨%Xs, H⟩
  iexists (Rect.glue slotRect slotRect_cover Xs)
  iapply (Entails.of_eq (owns_whole (c : Thread nD τ) cc0_scratch1 fullShare (Rect.glue slotRect slotRect_cover Xs)))
  iapply (owns_of_rects (c : Thread nD τ) lm fullShare slotRect (fun _ _ => rfl) slotRect_disjoint slotRect_cover (Rect.glue slotRect slotRect_cover Xs))
  have hg (j : Fin 16) : (fun y => Rect.glue slotRect slotRect_cover Xs ((slotRect j).emb y)) = Xs j :=
    funext fun y => Rect.glue_emb slotRect slotRect_cover slotRect_disjoint Xs j y
  simp only [hg]
  iexact H

/-! ## Shares of the reduced block -/

/-- The reduced block held whole is its sixteen shares. -/
theorem shares_eq (c : Dev nD) {l : List (Fin 16)} (h : Offs l) (X : S16x256.Idx → Elt F .bf16) :
    (owns (c : Thread nD τ) gm fullShare X : sProp 𝕄)
      = iprop(owns (c : Thread nD τ) gm (sh 0) X ∗ bigSepL l fun o => owns (c : Thread nD τ) gm (sh o) X) := by
  rw [← h.split (fun o => owns (c : Thread nD τ) gm (sh o) X), bigSep_univ_eq_bigSepL (List.finRange 16) (by decide) (by decide)]
  have e (q : PosShare TreeShare) : (owns (c : Thread nD τ) gm q X : sProp 𝕄) = (((c : Thread nD τ).loc cc0_scratch2) ↦{q} X) :=
    owns_whole (c : Thread nD τ) cc0_scratch2 q X
  simp only [e]
  exact equiv_iff.mp ⟨(Ring.pointsTo_nths _ 15 fullShare).1, (Ring.pointsTo_nths _ 15 fullShare).2⟩

end Cert.Mlp

end
-- ==== Proof.Phases.lean ====
/-
The body's phases, each proved once for one offset and then along a list of offsets: the barrier signals, the scatter's
sends, the landing slots taken and added up, the gather's sends, the gather's arrivals, and the last waits.
-/
module

public import proofs.«01_k».proof.Proof.Windows

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A body on device `c` from here on. -/
abbrev Run (c : Dev nD) (p : P (F := F)) (Q : PUnit → sProp 𝕄) : sProp 𝕄 :=
  wp frame (wpE (defs₀ (F := F)) 𝒱₀ (c : Thread nD τ) none) Set.univ p Q

/-- What device `c` still owes, whatever it has waited for. -/
def owing (c : Dev nD) (O : CellTallies nD τ sig Unit) : sProp 𝕄 := iprop(∃ W, owes (c : Thread nD τ) O W)

/-- Every cell's invariant, under the names `K`, and that every cell has reached round 0. -/
def records (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance records_persistent (K : Dev nD × Cell → ℕ) : BI.Persistent (records m K) := by unfold records; infer_instance

variable (K : Dev nD × Cell → ℕ)

theorem records_inv (ck : Dev nD × Cell) : records m K ⊢ cellInv ER (Rd m) (K ck) (kcell ck) := by
  have h : (bigSep Finset.univ fun ck : Dev nD × Cell => (cellInv ER (Rd m) (K ck) (kcell ck) : sProp 𝕄)) ⊢ cellInv ER (Rd m) (K ck) (kcell ck) :=
    bigSep_elim (Finset.mem_univ ck)
  unfold records; iintro ⟨H, -⟩; iapply h; iexact H
theorem records_reached (ck : Dev nD × Cell) : records m K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records; iintro ⟨-, H⟩; iapply h; iexact H

/-! ## Signals -/

/-- What device `c` signals the peer at offset `o` with: the barrier duty's token, its landing slot for that peer, and
    that peer's row block of its result. -/
def sigRes (c : Dev nD) (o : Fin 16) : sProp 𝕄 :=
  iprop(dutyTok ER (barCell (c + o)) 0 (-o) ∗ anyOwn c (slot o) ∗ anyOwn c (rowsW om (c + o)))

theorem wp_signal_at (c n : Dev nD) (o : Fin 16) (ho : o ≠ 0) (hn : n = c + o) (O : CellTallies nD τ sig Unit) (k : P (F := F)) (Q : PUnit → sProp 𝕄) :
    iprop(records m K ∗ owing c (O + tallyAt (barCell (c + o)) () 1) ∗ sigRes c o)
      ⊢ iprop((owing c O -∗ Run c k Q) -∗ Run c (.op (.semSignal (Dev.tc n) (sig.barrier 0 rfl) ((1 : ℕ) : ℤ)) fun _ => k) Q) := by
  subst hn
  unfold sigRes owing
  iintro ⟨#HR, ⟨%W, HO⟩, Htok, Hslot, Hrow⟩ Hk
  iapply (Rounds.wp_signal 𝒱₀ ER (Rd m) (c : Thread nD τ) none (dst := ((c + o : Dev nD) : Thread nD τ)) (κ := K (c + o, none))
      (d := -o) (r := 0) (k' := 1) (k := fun _ => k) (by rw [duties_bar]; exact Finset.mem_erase.mpr ⟨neg_ne o ho, Finset.mem_univ _⟩)
      (amount_bar m (c + o) (-o)) () O rfl (W := W)) $$ [HO Htok Hslot Hrow]
  · isplitr; · iapply (records_inv m K (c + o, none)); iexact HR
    isplitl [HO]; · iexact HO
    isplitl [Htok]; · iexact Htok
    isplitl [Hslot Hrow]
    · rw [payload_bar]; unfold barPay; rw [add_back, neg_neg16]
      isplitl [Hslot] <;> iassumption
    iapply (records_reached m K (c + o, none)); iexact HR
  iintro HO
  iapply Hk; iexists W; iexact HO

theorem signals (c : Dev nD) (O : CellTallies nD τ sig Unit) (k : P (F := F)) (Q : PUnit → sProp 𝕄) :
    ∀ (l : List (Fin 16)) (hl : ∀ o ∈ l, o ≠ 0),
    iprop(records m K ∗ owing c (O + duesBar c l) ∗ bigSepL l (fun o => sigRes c o))
      ⊢ iprop((owing c O -∗ Run c k Q) -∗ Run c (l.foldr (fun o k => pSignal c o k) k) Q)
  | [], _ => by
    rw [show O + duesBar c [] = O from add_zero _]
    iintro ⟨-, HO, -⟩ Hk
    iapply Hk; iexact HO
  | o :: l, hl => by
    rw [bigSepL_cons', List.foldr_cons]
    show _ ⊢ iprop(_ -∗ Run c (pSignal c o (l.foldr (fun o k => pSignal c o k) k)) Q)
    rw [show O + duesBar c (o :: l) = (O + duesBar c l) + tallyAt (barCell (c + o)) () 1 from (add_assoc _ _ _).symm]
    unfold pSignal
    iintro ⟨#HR, HO, H1, Hl⟩ Hk
    iapply (wp_signal_at m K c (peerAt c o) o (hl o List.mem_cons_self) (peerAt_eq c o) (O + duesBar c l) _ Q) $$ [HO H1]
    · isplitr; · iexact HR
      isplitl [HO] <;> iassumption
    iintro HO
    iapply (signals c O k Q l fun o ho => hl o (List.mem_cons_of_mem _ ho)) $$ [HO Hl]
    · isplitr; · iexact HR
      isplitl [HO] <;> iassumption
    iexact Hk

/-! ## Sends -/

/-- A window at known contents sent to the peer at offset `o`: the two transfer cells' tokens go in, the send cell's
    credit comes out. -/
theorem wp_send_at (a a' : Fin 4) (c n : Dev nD) (o : Fin 16) (ho : o ≠ 0) (hn : n = c + o)
    {src : Memref sig .tc .vmem S16x256 .bf16} {dst : Memref sig (Dev.tc n : Thread nD τ).2.kind .vmem S16x256 .bf16} {hsc : dst.view.ref.isScScratch = false}
    {hsrc : src.view.WordExact} {hdst : dst.view.WordExact}
    {hsem : DmaTarget.Typed .vmem (osem (a', -o)) (.remote (Dev.tc n : Thread nD τ) dst (osem (a, o)) hsc)}
    (q : PosShare TreeShare) (X : S16x256.Idx → Elt F .bf16)
    (hN : dst.view.amount (osem (a', -o)) = N)
    (hpay₁ : owns (c : Thread nD τ) src q X ⊢ xPay m a c o)
    (hpay₂ : owns (n : Thread nD τ) dst fullShare X ⊢ xPay m a' n (-o))
    (O : CellTallies nD τ sig Unit) (k : P (F := F)) (Q : PUnit → sProp 𝕄) :
    iprop(records m K ∗ owing c (O + tallyAt (xCell a' (c + o) (-o)) () N) ∗ owns (c : Thread nD τ) src q X ∗ anyOwn n dst
        ∗ dutyTok ER (xCell a c o) 0 0 ∗ dutyTok ER (xCell a' (c + o) (-o)) 0 0)
      ⊢ iprop(((cred (tallyAt (xCell a c o) () N) ∗ owing c O) -∗ Run c k Q)
          -∗ Run c (.op (.enqueueDma src (.remote (Dev.tc n : Thread nD τ) dst (osem (a, o)) hsc) (osem (a', -o)) hsrc hdst hsem) fun _ => k) Q) := by
  subst hn
  unfold anyOwn owing
  iintro ⟨#HR, ⟨%W, HO⟩, Hsrc, ⟨%Y, Hdst⟩, Ht1, Ht2⟩ Hk
  unfold owns
  icases Hsrc with ⟨%fs, %hfs, Hsrc⟩
  icases Hdst with ⟨%fd, -, Hdst⟩
  iapply (Rounds.wp_send_pointsTo 𝒱₀ ER (Rd m) (c : Thread nD τ) none (c' := ((c + o : Dev nD) : Thread nD τ)) (κ₁ := K (c, some (a, o))) (κ₂ := K (c + o, some (a', -o)))
    (r₁ := 0) (r₂ := 0) (d₁ := 0) (d₂ := 0) (fs := fs) (fd := fd) (q := q) (k := fun _ => k)
    (by rw [duties_x m c a o ho]; exact Finset.mem_singleton_self _) (by rw [duties_x m (c + o) a' (-o) (neg_ne o ho)]; exact Finset.mem_singleton_self _)
    () () N hN (amount_x m c a o 0) (amount_x m (c + o) a' (-o) 0) O rfl (W := W)
    (by rw [payload_x]; refine BIBase.Entails.trans ?_ hpay₁; rw [← hfs]; exact owns_intro _ _ _ _)
    (by
      rw [payload_x]; refine BIBase.Entails.trans ?_ hpay₂
      refine BIBase.Entails.trans (owns_intro ((c + o : Dev nD) : Thread nD τ) dst fullShare _) (Entails.of_eq ?_)
      rw [View.read_write_univ, hfs])) $$ [HO Hsrc Hdst Ht1 Ht2]
  · isplitr; · iapply (records_inv m K (c, some (a, o))); iexact HR
    isplitr; · iapply (records_inv m K (c + o, some (a', -o))); iexact HR
    isplitl [Hsrc]; · iexact Hsrc
    isplitl [Hdst]; · iexact Hdst
    isplitl [HO]; · iexact HO
    isplitl [Ht1]; · iexact Ht1
    isplitr; · iapply (records_reached m K (c, some (a, o))); iexact HR
    isplitl [Ht2]; · iexact Ht2
    iapply (records_reached m K (c + o, some (a', -o))); iexact HR
  iintro ⟨Hc, HO⟩
  iapply Hk
  isplitl [Hc]; · iexact Hc
  iexists W; iexact HO

/-- What a send at offset `o` spends of the protocol: both cells' tokens. -/
def toks2 (a a' : Fin 4) (c : Dev nD) (o : Fin 16) : sProp 𝕄 :=
  iprop(dutyTok ER (xCell a c o) 0 0 ∗ dutyTok ER (xCell a' (c + o) (-o)) 0 0)

/-- What the scatter's send at offset `o` takes: the source rows, the peer's landing slot, the tokens. -/
def scRes (c : Dev nD) (o : Fin 16) : sProp 𝕄 :=
  iprop(xPay m 0 c o ∗ anyOwn (c + o) (slot (-o)) ∗ toks2 0 1 c o)

theorem wp_scatter (c : Dev nD) (o : Fin 16) (ho : o ≠ 0) (O : CellTallies nD τ sig Unit) (k : P (F := F)) (Q : PUnit → sProp 𝕄) :
    iprop(records m K ∗ owing c (O + tallyAt (xCell 1 (c + o) (-o)) () N) ∗ scRes m c o)
      ⊢ iprop(((cred (tallyAt (xCell 0 c o) () N) ∗ owing c O) -∗ Run c k Q) -∗ Run c (pScatter c o k) Q) := by
  unfold pScatter scRes toks2
  have hn := peerAt_eq c o
  have hs := rowsAt_eq pm c o
  have hpay (n : Dev nD) (h : n = c + o) :
      (owns (n : Thread nD τ) (slot (-o)) fullShare (rowsOf (part m c) (c + o)) : sProp 𝕄) ⊢ xPay m 1 n (-o) := by
    subst h; unfold xPay; rw [add_back]
  iintro ⟨HR, HO, Hsrc, Hdst, Ht1, Ht2⟩ Hk
  iapply (wp_send_at m K 0 1 c (peerAt c o) o ho hn (src := rowsAt pm c o) (dst := slot (-o)) fullShare (rowsOf (part m c) (c + o)) rfl
    (by rw [hs]; exact .rfl)
    (hpay _ hn) O k Q) $$ [HR HO Hsrc Hdst Ht1 Ht2]
  · isplitl [HR]; · iexact HR
    isplitl [HO]; · iexact HO
    isplitl [Hsrc]; · rw [hs]; unfold xPay; iexact Hsrc
    isplitl [Hdst]; · rw [hn]; iexact Hdst
    isplitl [Ht1] <;> iassumption
  iexact Hk

theorem scatters (c : Dev nD) (O : CellTallies nD τ sig Unit) (k : P (F := F)) (Q : PUnit → sProp 𝕄) :
    ∀ (l : List (Fin 16)) (hl : ∀ o ∈ l, o ≠ 0),
    iprop(records m K ∗ owing c (O + duesRs c l) ∗ bigSepL l (fun o => scRes m c o))
      ⊢ iprop(((bigSepL l (fun o => cred (tallyAt (xCell 0 c o) () N)) ∗ owing c O) -∗ Run c k Q) -∗ Run c (l.foldr (fun o k => pScatter c o k) k) Q)
  | [], _ => by
    rw [show O + duesRs c [] = O from add_zero _]
    iintro ⟨-, HO, -⟩ Hk
    iapply Hk
    isplitr; · iempintro
    iexact HO
  | o :: l, hl => by
    rw [bigSepL_cons', bigSepL_cons', List.foldr_cons]
    show _ ⊢ iprop(_ -∗ Run c (pScatter c o (l.foldr (fun o k => pScatter c o k) k)) Q)
    rw [show O + duesRs c (o :: l) = (O + duesRs c l) + tallyAt (xCell 1 (c + o) (-o)) () N from (add_assoc _ _ _).symm]
    iintro ⟨#HR, HO, H1, Hl⟩ Hk
    iapply (wp_scatter m K c o (hl o List.mem_cons_self) (O + duesRs c l) _ Q) $$ [HO H1]
    · isplitr; · iexact HR
      isplitl [HO] <;> iassumption
    iintro ⟨Hc, HO⟩
    iapply (scatters c O k Q l fun o ho => hl o (List.mem_cons_of_mem _ ho)) $$ [HO Hl]
    · isplitr; · iexact HR
      isplitl [HO] <;> iassumption
    iintro ⟨Hcs, HO⟩
    iapply Hk
    isplitl [Hc Hcs]
    · isplitl [Hc] <;> iassumption
    iexact HO

/-- What the gather's send at offset `o` takes: a share of the reduced block, the peer's row block, the tokens. -/
def agRes (c : Dev nD) (o : Fin 16) : sProp 𝕄 :=
  iprop(xPay m 2 c o ∗ anyOwn (c + o) (rowsW om c) ∗ toks2 2 3 c o)

theorem wp_gather (c : Dev nD) (o : Fin 16) (ho : o ≠ 0) (O : CellTallies nD τ sig Unit) (k : P (F := F)) (Q : PUnit → sProp 𝕄) :
    iprop(records m K ∗ owing c (O + tallyAt (xCell 3 (c + o) (-o)) () N) ∗ agRes m c o)
      ⊢ iprop(((cred (tallyAt (xCell 2 c o) () N) ∗ owing c O) -∗ Run c k Q) -∗ Run c (pGather c o k) Q) := by
  unfold pGather agRes toks2
  have hn := peerAt_eq c o
  have hs := rowsOwn_eq c
  have hpay (n : Dev nD) (h : n = c + o) : (owns (n : Thread nD τ) (rowsOwn c) fullShare (red m c) : sProp 𝕄) ⊢ xPay m 3 n (-o) := by
    subst h; unfold xPay; rw [add_back, hs]
  iintro ⟨HR, HO, Hsrc, Hdst, Ht1, Ht2⟩ Hk
  iapply (wp_send_at m K 2 3 c (peerAt c o) o ho hn (src := gm) (dst := rowsOwn c) (sh o) (red m c) rfl
    (by exact .rfl)
    (hpay _ hn) O k Q) $$ [HR HO Hsrc Hdst Ht1 Ht2]
  · isplitl [HR]; · iexact HR
    isplitl [HO]; · iexact HO
    isplitl [Hsrc]; · unfold xPay; iexact Hsrc
    isplitl [Hdst]; · rw [hn, hs]; iexact Hdst
    isplitl [Ht1] <;> iassumption
  iexact Hk

theorem gathers (c : Dev nD) (O : CellTallies nD τ sig Unit) (k : P (F := F)) (Q : PUnit → sProp 𝕄) :
    ∀ (l : List (Fin 16)) (hl : ∀ o ∈ l, o ≠ 0),
    iprop(records m K ∗ owing c (O + duesAg c l) ∗ bigSepL l (fun o => agRes m c o))
      ⊢ iprop(((bigSepL l (fun o => cred (tallyAt (xCell 2 c o) () N)) ∗ owing c O) -∗ Run c k Q) -∗ Run c (l.foldr (fun o k => pGather c o k) k) Q)
  | [], _ => by
    rw [show O + duesAg c [] = O from add_zero _]
    iintro ⟨-, HO, -⟩ Hk
    iapply Hk
    isplitr; · iempintro
    iexact HO
  | o :: l, hl => by
    rw [bigSepL_cons', bigSepL_cons', List.foldr_cons]
    show _ ⊢ iprop(_ -∗ Run c (pGather c o (l.foldr (fun o k => pGather c o k) k)) Q)
    rw [show O + duesAg c (o :: l) = (O + duesAg c l) + tallyAt (xCell 3 (c + o) (-o)) () N from (add_assoc _ _ _).symm]
    iintro ⟨#HR, HO, H1, Hl⟩ Hk
    iapply (wp_gather m K c o (hl o List.mem_cons_self) (O + duesAg c l) _ Q) $$ [HO H1]
    · isplitr; · iexact HR
      isplitl [HO] <;> iassumption
    iintro ⟨Hc, HO⟩
    iapply (gathers c O k Q l fun o ho => hl o (List.mem_cons_of_mem _ ho)) $$ [HO Hl]
    · isplitr; · iexact HR
      isplitl [HO] <;> iassumption
    iintro ⟨Hcs, HO⟩
    iapply Hk
    isplitl [Hc Hcs]
    · isplitl [Hc] <;> iassumption
    iexact HO

/-! ## Waits -/

/-- A transfer cell before its wait. -/
def pend (a : Fin 4) (c : Dev nD) (o : Fin 16) : sProp 𝕄 :=
  iprop(cred (tallyAt (xCell a c o) () N) ∗ atPos ER (xCell a c o) 0 ∅ 0)
/-- A transfer cell after its wait, with what it handed over. -/
def done (a : Fin 4) (c : Dev nD) (o : Fin 16) : sProp 𝕄 :=
  iprop(atPos ER (xCell a c o) 1 ∅ 0 ∗ xPay m a c o)

theorem wp_wait_at (a : Fin 4) (c : Dev nD) (o : Fin 16) (ho : o ≠ 0) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (osem (a, o)) N Q)
    (O : CellTallies nD τ sig Unit) (hO : (levAts L lv : sProp 𝕄) ⊢ MayWait (c : Thread nD τ) (osem (a, o)) () O)
    (k : P (F := F)) (Q : PUnit → sProp 𝕄) :
    iprop(records m K ∗ levAts L lv ∗ owing c O ∗ pend a c o)
      ⊢ iprop(((owing c O ∗ done m a c o) -∗ Run c k Q) -∗ Run c (.op w fun _ => k) Q) := by
  unfold pend done owing
  iintro ⟨#HR, #Hlev, ⟨%W, HO⟩, Hc, Hat⟩ Hk
  iapply (Rounds.wp_wait_rest_token 𝒱₀ ER (Rd m) (c : Thread nD τ) none (κ := K (c, some (a, o))) (sm := osem (a, o)) (w := w) (k' := N) (k := fun _ => k)
      hw (Set.mem_univ _) () (O := O) (W := W) (R := 0) (m := 0) (T := ∅)
      (by rw [Nat.zero_add]; exact (expect_x m c a o ho).symm)) $$ [Hc HO Hat]
  · isplitr; · iapply (records_inv m K (c, some (a, o))); iexact HR
    isplitl [Hc]; · iexact Hc
    isplitl [HO]; · iexact HO
    isplitr; · iapply hO; iexact Hlev
    iexact Hat
  iintro ⟨HO, Hat, -, Hpay⟩
  ihave Hp := (Entails.of_eq (rest_x m c a o ho)) $$ Hpay
  iapply Hk
  isplitl [HO]; · iexists _; iexact HO
  isplitl [Hat] <;> iassumption

/-! ### Taking the landing slots -/

/-- One more peer's row block added to device `c`'s sum. -/
def addRow (c : Dev nD) (acc : FVec F S16x256 .f32) (j : Fin 16) : FVec F S16x256 .f32 :=
  addf acc (extf .f32 (rowsOf (part m (c + j)) c : FVec F S16x256 .bf16) bitsLt_bf16_f32)

theorem wp_take (c : Dev nD) (j : Fin 16) (hj : j ≠ 0) (l : List (Fin 16)) (acc : FVec F S16x256 .f32)
    (k : FVec F S16x256 .f32 → P (F := F)) (Q : PUnit → sProp 𝕄) :
    iprop(records m K ∗ levAts L lv ∗ owing c (duesAg c far) ∗ pend 1 c j)
      ⊢ iprop(((owing c (duesAg c far) ∗ done m 1 c j) -∗ Run c (k (addRow m c acc j)) Q)
          -∗ Run c (pTake j fun v => k (accStep acc v)) Q) := by
  unfold pTake
  iintro H Hk
  iapply (wp_wait_at m K 1 c j hj (w := .waitDma2 (semAt cc0_scratch4 j) top (slot j) top_wordExact (slot_wordExact j))
    (wpE_waitDma2_eq 𝒱₀ (c : Thread nD τ) none Set.univ) (duesAg c far) (mayWait_rs c j far) _ Q) $$ H
  unfold done xPay owns
  iintro ⟨HO, Hat, ⟨%f, %hf, Hs⟩⟩
  iapply (wp_load_rect 𝒱₀ (c : Thread nD τ) none Set.univ (m := lm) (r := slotRect j) (S := (slot j).view.set) (f := f)
    (by rw [show (slot j).view.set = (lm.access (slotRect j)).set from View.set_reshape _ _])) $$ Hs
  iintro Hs
  rw [show accStep acc ((lm.access (slotRect j)).read (Elt F) f) = addRow m c acc j from by
    unfold accStep addRow; rw [← hf]; rfl]
  iapply Hk
  isplitl [HO]; · iexact HO
  isplitl [Hat]; · iexact Hat
  iexists f
  isplitr; · ipureintro; exact hf
  iexact Hs

theorem takes (c : Dev nD) (k : FVec F S16x256 .f32 → P (F := F)) (Q : PUnit → sProp 𝕄) :
    ∀ (l : List (Fin 16)) (hl : ∀ o ∈ l, o ≠ 0) (acc : FVec F S16x256 .f32),
    iprop(records m K ∗ levAts L lv ∗ owing c (duesAg c far) ∗ bigSepL l (fun j => pend 1 c j))
      ⊢ iprop(((owing c (duesAg c far) ∗ bigSepL l (fun j => done m 1 c j)) -∗ Run c (k (l.foldl (addRow m c) acc)) Q)
          -∗ Run c (pSum l acc k) Q)
  | [], _, acc => by
    iintro ⟨-, -, HO, -⟩ Hk
    iapply Hk
    isplitl [HO]; · iexact HO
    iempintro
  | j :: l, hl, acc => by
    rw [bigSepL_cons', bigSepL_cons', List.foldl_cons]
    show _ ⊢ iprop(_ -∗ Run c (pTake j fun v => pSum l (accStep acc v) k) Q)
    iintro ⟨#HR, #Hlev, HO, H1, Hl⟩ Hk
    iapply (wp_take m K c j (hl j List.mem_cons_self) l acc (fun a => pSum l a k) Q) $$ [HO H1]
    · isplitr; · iexact HR
      isplitr; · iexact Hlev
      isplitl [HO] <;> iassumption
    iintro ⟨HO, Hd⟩
    iapply (takes c k Q l (fun o ho => hl o (List.mem_cons_of_mem _ ho)) (addRow m c acc j)) $$ [HO Hl]
    · isplitr; · iexact HR
      isplitr; · iexact Hlev
      isplitl [HO] <;> iassumption
    iintro ⟨HO, Hds⟩
    iapply Hk
    isplitl [HO]; · iexact HO
    isplitl [Hd] <;> iassumption

/-! ### The gather's arrivals and the last waits -/

theorem arrives (c : Dev nD) (k : P (F := F)) (Q : PUnit → sProp 𝕄) :
    ∀ (l : List (Fin 16)) (hl : ∀ o ∈ l, o ≠ 0),
    iprop(records m K ∗ levAts L lv ∗ owing c 0 ∗ bigSepL l (fun j => pend 3 c j))
      ⊢ iprop(((owing c 0 ∗ bigSepL l (fun j => done m 3 c j)) -∗ Run c k Q) -∗ Run c (l.foldr (fun j k => pArrive c j k) k) Q)
  | [], _ => by
    iintro ⟨-, -, HO, -⟩ Hk
    iapply Hk
    isplitl [HO]; · iexact HO
    iempintro
  | j :: l, hl => by
    rw [bigSepL_cons', bigSepL_cons', List.foldr_cons]
    show _ ⊢ iprop(_ -∗ Run c (pArrive c j (l.foldr (fun j k => pArrive c j k) k)) Q)
    unfold pArrive
    iintro ⟨#HR, #Hlev, HO, H1, Hl⟩ Hk
    iapply (wp_wait_at m K 3 c j (hl j List.mem_cons_self) (w := .waitDma2 (semAt cc0_scratch6 j) gm (rowsAt om c j) gm_wordExact (rowsAt_wordExact _ (Memref.isWhole_whole _) c j))
      (wpE_waitDma2_eq 𝒱₀ (c : Thread nD τ) none Set.univ) 0 (mayWait_zero c _) _ Q) $$ [HO H1]
    · isplitr; · iexact HR
      isplitr; · iexact Hlev
      isplitl [HO] <;> iassumption
    iintro ⟨HO, Hd⟩
    iapply (arrives c k Q l (fun o ho => hl o (List.mem_cons_of_mem _ ho))) $$ [HO Hl]
    · isplitr; · iexact HR
      isplitr; · iexact Hlev
      isplitl [HO] <;> iassumption
    iintro ⟨HO, Hds⟩
    iapply Hk
    isplitl [HO]; · iexact HO
    isplitl [Hd] <;> iassumption

theorem drains (c : Dev nD) (k : P (F := F)) (Q : PUnit → sProp 𝕄) :
    ∀ (l : List (Fin 16)) (hl : ∀ o ∈ l, o ≠ 0),
    iprop(records m K ∗ levAts L lv ∗ owing c 0 ∗ bigSepL l (fun o => iprop(pend 0 c o ∗ pend 2 c o)))
      ⊢ iprop(((owing c 0 ∗ bigSepL l (fun o => iprop(done m 0 c o ∗ done m 2 c o))) -∗ Run c k Q)
          -∗ Run c (l.foldr (fun o k => pDrain o k) k) Q)
  | [], _ => by
    iintro ⟨-, -, HO, -⟩ Hk
    iapply Hk
    isplitl [HO]; · iexact HO
    iempintro
  | o :: l, hl => by
    rw [bigSepL_cons', bigSepL_cons', List.foldr_cons]
    show _ ⊢ iprop(_ -∗ Run c (pDrain o (l.foldr (fun o k => pDrain o k) k)) Q)
    unfold pDrain
    iintro ⟨#HR, #Hlev, HO, ⟨H1, H2⟩, Hl⟩ Hk
    iapply (wp_wait_at m K 0 c o (hl o List.mem_cons_self) (w := .waitDma2 (semAt cc0_scratch3 o) (slot o) top (slot_wordExact o) top_wordExact)
      (wpE_waitDma2_eq 𝒱₀ (c : Thread nD τ) none Set.univ) 0 (mayWait_zero c _) _ Q) $$ [HO H1]
    · isplitr; · iexact HR
      isplitr; · iexact Hlev
      isplitl [HO] <;> iassumption
    iintro ⟨HO, Hd1⟩
    iapply (wp_wait_at m K 2 c o (hl o List.mem_cons_self) (w := .waitDma2 (semAt cc0_scratch5 o) (slot o) top (slot_wordExact o) top_wordExact)
      (wpE_waitDma2_eq 𝒱₀ (c : Thread nD τ) none Set.univ) 0 (mayWait_zero c _) _ Q) $$ [HO H2]
    · isplitr; · iexact HR
      isplitr; · iexact Hlev
      isplitl [HO] <;> iassumption
    iintro ⟨HO, Hd2⟩
    iapply (drains c k Q l (fun o ho => hl o (List.mem_cons_of_mem _ ho))) $$ [HO Hl]
    · isplitr; · iexact HR
      isplitr; · iexact Hlev
      isplitl [HO] <;> iassumption
    iintro ⟨HO, Hds⟩
    iapply Hk
    isplitl [HO]; · iexact HO
    isplitl [Hd1 Hd2]
    · isplitl [Hd1] <;> iassumption
    iexact Hds

end Cert.Mlp

end
-- ==== Proof.Body.lean ====
/-
The kernel's body on one device, executed from what the launch hands it to what it leaves: the operands unchanged, every
row block of the result the reduced block of the device that owns it, nothing owed, every semaphore at zero.
-/
module

public import proofs.«01_k».proof.Proof.Phases

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's cells, one by one -/

/-- Something held of every cell of a device is held of its barrier and of each offset of the four arrays. -/
theorem cells_split {M : Type} [URA M] (Φ : Cell → sProp M) :
    bigSep Finset.univ Φ = iprop(Φ none ∗ (bigSep Finset.univ fun o => Φ (some (0, o))) ∗ (bigSep Finset.univ fun o => Φ (some (1, o)))
      ∗ (bigSep Finset.univ fun o => Φ (some (2, o))) ∗ (bigSep Finset.univ fun o => Φ (some (3, o)))) := by
  rw [bigSep_univ_at Φ none, show (Finset.univ.erase none : Finset Cell) = Finset.univ.map ⟨some, Option.some_injective _⟩ from by decide +kernel,
    bigSep_map, bigSep_univ_prod, bigSep_univ_eq_bigSepL [0, 1, 2, 3] (by decide) (by decide)]
  rfl

section Closing

variable (K : Dev nD × Cell → ℕ)

/-- A cell past its last round closes: its semaphore is at zero. -/
theorem close_cell (c : Dev nD) (k : Cell) (R : ℕ) (hR : ∀ r, R ≤ r → (Rd (F := F) m).duties (kcell (c, k)) r = ∅) :
    iprop(records m K ∗ atPos ER (kcell (c, k)) R ∅ 0) ⊢ iprop(|={Set.univ}=> semVal (kcell (c, k)) 0) := by
  iintro ⟨#HR, Hat⟩
  iapply (Rounds.cell_close ER (Rd m) (Set.mem_univ (K (c, k))) (fun h => h) (R := R) hR)
  isplitr; · iapply (records_inv m K (c, k)); iexact HR
  iexact Hat

theorem close_list (c : Dev nD) (a : Fin 4) : ∀ l : List (Fin 16),
    iprop(records m K ∗ bigSepL l fun o => atPos ER (xCell a c o) 1 ∅ 0)
      ⊢ iprop(|={Set.univ}=> bigSepL l fun o => semVal (kcell (c, some (a, o))) 0)
  | [] => by
    iintro ⟨-, H⟩; imodintro; iempintro
  | o :: l => by
    rw [bigSepL_cons', bigSepL_cons']
    iintro ⟨#HR, H1, Hl⟩
    imod (close_cell m K c (some (a, o)) 1 (duties_later m _)) $$ [H1] with Hz
    · isplitr; · iexact HR
      iexact H1
    imod (close_list c a l) $$ [Hl] with Hzs
    · isplitr; · iexact HR
      iexact Hl
    imodintro
    isplitl [Hz] <;> iassumption

/-- One array's cells closed: offset 0, which nothing used, and the offsets of the list, each waited for once. -/
theorem close_array (c : Dev nD) (a : Fin 4) {l : List (Fin 16)} (h : Offs l) :
    iprop(records m K ∗ atPos ER (xCell a c 0) 0 ∅ 0 ∗ bigSepL l fun o => atPos ER (xCell a c o) 1 ∅ 0)
      ⊢ iprop(|={Set.univ}=> bigSep Finset.univ fun o => semVal (kcell (c, some (a, o))) 0) := by
  rw [h.split]
  iintro ⟨#HR, H0, Hl⟩
  imod (close_cell m K c (some (a, 0)) 0 (fun r _ => duties_x0 m c a r)) $$ [H0] with Hz
  · isplitr; · iexact HR
    iexact H0
  imod (close_list m K c a l) $$ [Hl] with Hzs
  · isplitr; · iexact HR
    iexact Hl
  imodintro
  isplitl [Hz] <;> iassumption

end Closing

/-! ## Loads and stores of whole buffers and of the device's own rows -/

theorem hz : (![0, 0] : Fin 2 → Nat) = fun _ => 0 := funext fun a => by fin_cases a <;> rfl

/-- A load of the device's own rows, at the offsets the kernel computes. -/
theorem wp_load_own (c : Dev nD) (M : Memref sig .tc .vmem S256x256 .bf16) {off : Fin 2 → ℕ} (h : off = ![16 * c.val, 0])
    {inb : ∀ a, off a + S16x256.size a ≤ S256x256.size a} {hl : M.view.LoadsAt (Rect.unit (s := S256x256) off S16x256.size inb).toLoadRect}
    (X : S16x256.Idx → Elt F .bf16) (k : (S16x256.Idx → Elt F .bf16) → P (F := F)) (Q : PUnit → sProp 𝕄) :
    (owns (c : Thread nD τ) (rowsW M c) fullShare X : sProp 𝕄)
      ⊢ iprop((owns (c : Thread nD τ) (rowsW M c) fullShare X -∗ Run c (k X) Q)
          -∗ Run c (.op (.load M (Rect.unit (s := S256x256) off S16x256.size inb).toLoadRect hl) k) Q) := by
  subst h
  unfold owns
  iintro ⟨%f, %hf, Hs⟩ Hk
  iapply (wp_load_rect 𝒱₀ (c : Thread nD τ) none Set.univ (m := M) (r := rowRect c) (S := (rowsW M c).view.set) (f := f) (Finset.Subset.refl _)) $$ Hs
  iintro Hs
  rw [show (M.access (rowRect c)).read (Elt F) f = X from hf]
  iapply Hk
  iexists f
  isplitr; · ipureintro; exact hf
  iexact Hs

/-- A store over the device's own rows, at the offsets the kernel computes. -/
theorem wp_store_own (c : Dev nD) (M : Memref sig .tc .vmem S256x256 .bf16) {off : Fin 2 → ℕ} (h : off = ![16 * c.val, 0])
    {inb : ∀ a, off a + S16x256.size a ≤ S256x256.size a}
    {hx : (M.access (Rect.unit (s := S256x256) off S16x256.size inb)).Stores Finset.univ}
    {hm : (Finset.univ : Finset (Rect.unit (s := S256x256) off S16x256.size inb).shape.Idx) = Finset.univ ∨ ∀ a, (Rect.unit (s := S256x256) off S16x256.size inb).stride a = 1}
    (X Y : S16x256.Idx → Elt F .bf16) (k : P (F := F)) (Q : PUnit → sProp 𝕄) :
    (owns (c : Thread nD τ) (rowsW M c) fullShare X : sProp 𝕄)
      ⊢ iprop((owns (c : Thread nD τ) (rowsW M c) fullShare Y -∗ Run c k Q)
          -∗ Run c (.op (.store M (Rect.unit (s := S256x256) off S16x256.size inb) Y Finset.univ hx hm) fun _ => k) Q) := by
  subst h
  unfold owns
  iintro ⟨%f, -, Hs⟩ Hk
  iapply (wp_store 𝒱₀ (c : Thread nD τ) none Set.univ (m := M) (r := rowRect c) (Mk := Finset.univ) (S := (rowsW M c).view.set) (f := f)
    (k := fun _ => k) (Finset.Subset.refl _)) $$ Hs
  iintro Hs
  iapply Hk
  iexists _
  isplitr
  rotate_left
  · iexact Hs
  · ipureintro; exact View.read_write_univ _ _

/-! ## What the body starts from and ends with -/

/-- The tokens device `c` pays its peer at offset `o` with. -/
def payToks (c : Dev nD) (o : Fin 16) : sProp 𝕄 :=
  iprop(dutyTok ER (barCell (c + o)) 0 (-o) ∗ toks2 0 1 c o ∗ toks2 2 3 c o)

/-- Device `c`'s positions at its cells, before any wait. -/
def posn (c : Dev nD) : sProp 𝕄 := bigSep Finset.univ fun k : Cell => atPos ER (kcell (c, k)) 0 ∅ 0
/-- Device `c`'s semaphores, all at zero. -/
def zeros (c : Dev nD) : sProp 𝕄 := bigSep Finset.univ fun k : Cell => semVal (kcell (c, k)) 0

/-- What the peers owe device `c`: fifteen barrier signals, and each a partial row block and a reduced row block. -/
def inCreds (c : Dev nD) : sProp 𝕄 :=
  iprop(cred (tallyAt (barCell c) () 15) ∗ (bigSepL near fun o => cred (tallyAt (xCell 1 c o) () N)) ∗ bigSepL near fun o => cred (tallyAt (xCell 3 c o) () N))

/-- A whole buffer on device `c`. -/
abbrev buf (c : Dev nD) (b : Ref sig .tc) (f : b.ty.Contents (Elt F)) : sProp 𝕄 :=
  ((c : Thread nD τ).loc b) ↦{fullShare} f

/-- The result: row block `b` is what device `b` reduced. -/
def outAt : FVec F S256x256 .bf16 := ofRows fun b => red m b

variable (K : Dev nD × Cell → ℕ)

theorem far_swap (c : Dev nD) (a : Fin 4) :
    (bigSepL far fun o => (cred (tallyAt (xCell a c o) () N) : sProp 𝕄)) = bigSepL asc fun o => cred (tallyAt (xCell a c o) () N) :=
  far_offs.swap asc_offs _

/-- What the body's phases start from: the records, the levels, the positions, the tokens, the credits, the debts, and the
    nine buffers whole, the four operands at their blocks. -/
def bodyPre (c : Dev nD) (fp : FVec F S256x256 .bf16) (fl : FVec F S16x16x256 .bf16) (fg : FVec F S16x256 .bf16) (fo : FVec F S256x256 .bf16) : sProp 𝕄 :=
  iprop(records m K ∗ levAts L lv ∗ posn c ∗ (bigSepL far fun o => payToks c o) ∗ inCreds c ∗ owing c (O₀ c)
    ∗ buf c cc0_scratch0 fp ∗ buf c cc0_scratch1 fl ∗ buf c cc0_scratch2 fg ∗ buf c cc0_stg4_0 fo
    ∗ buf c cc0_stg0_0 (iblk m c 0 t0_0) ∗ buf c cc0_stg1_0 (iblk m c 1 t0_0) ∗ buf c cc0_stg2_0 (iblk m c 2 t0_0) ∗ buf c cc0_stg3_0 (iblk m c 3 t0_0))

/-- What they end with: nothing owed, the scratch buffers at some contents, the semaphores at zero, the result in place. -/
def bodyPost (c : Dev nD) : sProp 𝕄 :=
  iprop(owing c 0 ∗ (∃ f, buf c cc0_scratch0 f) ∗ (∃ f, buf c cc0_scratch1 f) ∗ (∃ f, buf c cc0_scratch2 f) ∗ zeros c
    ∗ buf c cc0_stg4_0 (outAt m)
    ∗ buf c cc0_stg0_0 (iblk m c 0 t0_0) ∗ buf c cc0_stg1_0 (iblk m c 1 t0_0) ∗ buf c cc0_stg2_0 (iblk m c 2 t0_0) ∗ buf c cc0_stg3_0 (iblk m c 3 t0_0))

/-- The wait for the fifteen barrier signals, the two transfers' credits still owed: each peer's landing slot and its row
    block of the result come with it. -/
theorem wp_bar (c : Dev nD) (k : P (F := F)) (Q : PUnit → sProp 𝕄) :
    iprop(records m K ∗ levAts L lv ∗ owing c (duesAg c far + duesRs c far) ∗ cred (tallyAt (barCell c) () 15) ∗ atPos ER (barCell c) 0 ∅ 0)
      ⊢ iprop(((owing c (duesAg c far + duesRs c far) ∗ atPos ER (barCell c) 1 ∅ 0
            ∗ (bigSepL far fun o => anyOwn (c + o) (slot (-o))) ∗ bigSepL far fun o => anyOwn (c + o) (rowsW om c)) -∗ Run c k Q)
          -∗ Run c (.op (.semWait (sig.barrier 0 rfl) ((15 : ℕ) : ℤ)) fun _ => k) Q) := by
  unfold owing
  iintro ⟨#HR, #Hlev, ⟨%W, HO⟩, Hc, Hat⟩ Hk
  iapply (Rounds.wp_wait_rest_token 𝒱₀ ER (Rd m) (c : Thread nD τ) none (κ := K (c, none)) (sm := .reg (sig.barrier 0 rfl)) (k' := 15) (k := fun _ => k)
      (wpE_semWait_eq 𝒱₀ (c : Thread nD τ) none Set.univ) (Set.mem_univ _) () (O := duesAg c far + duesRs c far) (W := W) (R := 0) (m := 0) (T := ∅)
      (by rw [Nat.zero_add]; exact (expect_bar m c).symm)) $$ [Hc HO Hat]
  · isplitr; · iapply (records_inv m K (c, none)); iexact HR
    isplitl [Hc]; · iexact Hc
    isplitl [HO]; · iexact HO
    isplitr; · iapply (mayWait_bar c far far); iexact Hlev
    iexact Hat
  iintro ⟨HO, Hat, -, Hpay⟩
  ihave Hp := (Entails.of_eq ((rest_bar m c).trans (bigSepL_sep far _ _))) $$ Hpay
  icases Hp with ⟨Hs, Hr⟩
  iapply Hk
  isplitl [HO]; · iexists _; iexact HO
  isplitl [Hat]; · iexact Hat
  isplitl [Hs] <;> iassumption

/-- The local computation: the operands loaded, the partial product stored. -/
theorem wp_compute (c : Dev nD) (fp : FVec F S256x256 .bf16) (k : P (F := F)) (Q : PUnit → sProp 𝕄) :
    iprop(buf c cc0_stg0_0 (iblk m c 0 t0_0) ∗ buf c cc0_stg1_0 (iblk m c 1 t0_0) ∗ buf c cc0_stg2_0 (iblk m c 2 t0_0) ∗ buf c cc0_stg3_0 (iblk m c 3 t0_0)
        ∗ buf c cc0_scratch0 fp)
      ⊢ iprop(((buf c cc0_stg0_0 (iblk m c 0 t0_0) ∗ buf c cc0_stg1_0 (iblk m c 1 t0_0) ∗ buf c cc0_stg2_0 (iblk m c 2 t0_0) ∗ buf c cc0_stg3_0 (iblk m c 3 t0_0)
          ∗ owns (c : Thread nD τ) pm fullShare (part m c)) -∗ Run c k Q)
        -∗ Run c (.op (.load xm (Rect.unit (s := S256x256) ![0, 0] S256x256.size inb_S256x256_S256x256_0_0).toLoadRect (View.loadsAt_vmem h_S256x256)) fun (v0 : Vec F S256x256 .bf16) =>
            .op (.load am (Rect.unit (s := S256x512) ![0, 0] S256x512.size inb_S256x512_S256x512_0_0).toLoadRect (View.loadsAt_vmem h_S256x512)) fun (v1 : Vec F S256x512 .bf16) =>
            .op (.load um (Rect.unit (s := S256x512) ![0, 0] S256x512.size inb_S256x512_S256x512_0_0).toLoadRect (View.loadsAt_vmem h_S256x512)) fun (v2 : Vec F S256x512 .bf16) =>
            .op (.load dm (Rect.unit (s := S512x256) ![0, 0] S512x256.size inb_S512x256_S512x256_0_0).toLoadRect (View.loadsAt_vmem h_S512x256)) fun (v3 : Vec F S512x256 .bf16) =>
            .op (.load pm (Rect.unit (s := S256x256) ![0, 0] S256x256.size inb_S256x256_S256x256_0_0).toLoadRect (View.loadsAt_vmem h_S256x256)) fun (_ : Vec F S256x256 .bf16) =>
            .op (.store pm (Rect.unit (s := S256x256) ![0, 0] S256x256.size inb_S256x256_S256x256_0_0) (k0_pay1 v0 v1 v2 v3) Finset.univ
              (View.stores_vmem h_S256x256 ((Memref.isWhole_whole cc0_scratch0).storeExact_slice rfl _ packedbf16_S256x256_S256x256_0_0) (fun _ => rfl)) (.inl rfl)) fun _ => k) Q) := by
  iintro ⟨Hx, Ha, Hu, Hd, Hp⟩ Hk
  iapply (wp_load 𝒱₀ (c : Thread nD τ) none Set.univ (m := xm) (Finset.subset_univ _)) $$ Hx; iintro Hx
  rw [show ∀ r, xm.view.readAt (Elt F) (Rect.unit (s := S256x256) ![0, 0] S256x256.size r).toLoadRect (iblk m c 0 t0_0) = iblk m c 0 t0_0 from
    fun r => Memref.readAt_unit_zero (Elt F) cc0_stg0_0 hz _ _]
  iapply (wp_load 𝒱₀ (c : Thread nD τ) none Set.univ (m := am) (Finset.subset_univ _)) $$ Ha; iintro Ha
  rw [show ∀ r, am.view.readAt (Elt F) (Rect.unit (s := S256x512) ![0, 0] S256x512.size r).toLoadRect (iblk m c 1 t0_0) = iblk m c 1 t0_0 from
    fun r => Memref.readAt_unit_zero (Elt F) cc0_stg1_0 hz _ _]
  iapply (wp_load 𝒱₀ (c : Thread nD τ) none Set.univ (m := um) (Finset.subset_univ _)) $$ Hu; iintro Hu
  rw [show ∀ r, um.view.readAt (Elt F) (Rect.unit (s := S256x512) ![0, 0] S256x512.size r).toLoadRect (iblk m c 2 t0_0) = iblk m c 2 t0_0 from
    fun r => Memref.readAt_unit_zero (Elt F) cc0_stg2_0 hz _ _]
  iapply (wp_load 𝒱₀ (c : Thread nD τ) none Set.univ (m := dm) (Finset.subset_univ _)) $$ Hd; iintro Hd
  rw [show ∀ r, dm.view.readAt (Elt F) (Rect.unit (s := S512x256) ![0, 0] S512x256.size r).toLoadRect (iblk m c 3 t0_0) = iblk m c 3 t0_0 from
    fun r => Memref.readAt_unit_zero (Elt F) cc0_stg3_0 hz _ _]
  iapply (wp_load 𝒱₀ (c : Thread nD τ) none Set.univ (m := pm) (Finset.subset_univ _)) $$ Hp; iintro Hp
  iapply (wp_store 𝒱₀ (c : Thread nD τ) none Set.univ (m := pm) (r := Rect.unit (s := S256x256) ![0, 0] S256x256.size inb_S256x256_S256x256_0_0)
    (Mk := Finset.univ) (k := fun _ => k) (Finset.subset_univ _)) $$ Hp
  iintro Hp
  rw [show ∀ r w, (pm.access (Rect.unit (s := S256x256) ![0, 0] S256x256.size r)).write (Elt F) fp w Finset.univ = w from
    fun r w => Memref.write_access_unit_zero_univ (Elt F) cc0_scratch0 hz _ _ _]
  iapply Hk
  isplitl [Hx]; · iexact Hx
  isplitl [Ha]; · iexact Ha
  isplitl [Hu]; · iexact Hu
  isplitl [Hd]; · iexact Hd
  rw [owns_whole]; unfold part; iexact Hp

/-- The reduced block stored, and copied into the device's own rows of the result. -/
theorem wp_reduced (c : Dev nD) (acc : FVec F S16x256 .f32) (fg : FVec F S16x256 .bf16) (k : P (F := F)) (Q : PUnit → sProp 𝕄) :
    iprop(buf c cc0_scratch2 fg ∗ anyOwn c (rowsW om c))
      ⊢ iprop(((owns (c : Thread nD τ) gm fullShare (truncf .bf16 acc bitsLt_bf16_f32)
            ∗ owns (c : Thread nD τ) (rowsW om c) fullShare (truncf .bf16 acc bitsLt_bf16_f32)) -∗ Run c k Q)
        -∗ Run c (.op (.load gm (Rect.unit (s := S16x256) ![0, 0] S16x256.size inb_S16x256_S16x256_0_0).toLoadRect (View.loadsAt_vmem h_S16x256)) fun (_ : Vec F S16x256 .bf16) =>
            .op (.store gm (Rect.unit (s := S16x256) ![0, 0] S16x256.size inb_S16x256_S16x256_0_0)
              (shapeCast S16x256 (truncf .bf16 acc bitsLt_bf16_f32) shapeCasts_S16x256_S16x256) Finset.univ
              (View.stores_vmem h_S16x256 ((Memref.isWhole_whole cc0_scratch2).storeExact_slice rfl _ packedbf16_S16x256_S16x256_0_0) (fun _ => rfl)) (.inl rfl)) fun _ =>
            .op (.load gm (Rect.unit (s := S16x256) ![0, 0] S16x256.size inb_S16x256_S16x256_0_0).toLoadRect (View.loadsAt_vmem h_S16x256)) fun (v5 : Vec F S16x256 .bf16) =>
            .op (.load om (Rect.unit (s := S256x256) (k0_off2 c) S16x256.size (k0_off2_inb c)).toLoadRect (View.loadsAt_vmem h_S16x256)) fun (_ : Vec F S16x256 .bf16) =>
            .op (.store om (Rect.unit (s := S256x256) (k0_off2 c) S16x256.size (k0_off2_inb c)) v5 Finset.univ
              (View.stores_vmem h_S16x256 ((Memref.isWhole_whole cc0_stg4_0).storeExact_slice rfl _ (k0_off2_packedbf16 c)) (fun _ => rfl)) (.inl rfl)) fun _ => k) Q) := by
  rw [show ∀ h, shapeCast S16x256 (truncf .bf16 acc bitsLt_bf16_f32) h = truncf .bf16 acc bitsLt_bf16_f32 from
    fun h => funext fun i => congrArg _ (Shape.reshapeEquiv_self h i)]
  generalize truncf .bf16 acc bitsLt_bf16_f32 = y
  unfold anyOwn
  iintro ⟨Hg, ⟨%X, Ho⟩⟩ Hk
  iapply (wp_load 𝒱₀ (c : Thread nD τ) none Set.univ (m := gm) (Finset.subset_univ _)) $$ Hg; iintro Hg
  iapply (wp_store 𝒱₀ (c : Thread nD τ) none Set.univ (m := gm) (r := Rect.unit (s := S16x256) ![0, 0] S16x256.size inb_S16x256_S16x256_0_0)
    (Mk := Finset.univ) (Finset.subset_univ _)) $$ Hg
  iintro Hg
  rw [show ∀ r, (gm.access (Rect.unit (s := S16x256) ![0, 0] S16x256.size r)).write (Elt F) fg y Finset.univ = y from
    fun r => Memref.write_access_unit_zero_univ (Elt F) cc0_scratch2 hz _ _ _]
  iapply (wp_load 𝒱₀ (c : Thread nD τ) none Set.univ (m := gm) (Finset.subset_univ _)) $$ Hg; iintro Hg
  rw [show ∀ r, gm.view.readAt (Elt F) (Rect.unit (s := S16x256) ![0, 0] S16x256.size r).toLoadRect y = y from
    fun r => Memref.readAt_unit_zero (Elt F) cc0_scratch2 hz _ _]
  iapply (wp_load_own c om (k0_off2_eq c) X _ Q) $$ Ho
  iintro Ho
  iapply (wp_store_own c om (k0_off2_eq c) X y k Q) $$ Ho
  iintro Ho
  iapply Hk
  isplitl [Hg]; · rw [owns_whole]; iexact Hg
  iexact Ho

/-- A device's positions, by array, each array's along the list its waits follow. -/
theorem posn_eq (c : Dev nD) : (posn c : sProp 𝕄)
    = iprop(atPos ER (barCell c) 0 ∅ 0
      ∗ (atPos ER (xCell 0 c 0) 0 ∅ 0 ∗ bigSepL asc fun o => atPos ER (xCell 0 c o) 0 ∅ 0)
      ∗ (atPos ER (xCell 1 c 0) 0 ∅ 0 ∗ bigSepL near fun o => atPos ER (xCell 1 c o) 0 ∅ 0)
      ∗ (atPos ER (xCell 2 c 0) 0 ∅ 0 ∗ bigSepL asc fun o => atPos ER (xCell 2 c o) 0 ∅ 0)
      ∗ (atPos ER (xCell 3 c 0) 0 ∅ 0 ∗ bigSepL near fun o => atPos ER (xCell 3 c o) 0 ∅ 0)) := by
  unfold posn; rw [cells_split, asc_offs.split, near_offs.split, asc_offs.split, near_offs.split]; rfl

/-- Before the signals: the landing slots and the result's rows apart, with the tokens to signal by. -/
theorem sig_intro (c : Dev nD) (fl : FVec F S16x16x256 .bf16) (fo : FVec F S256x256 .bf16) :
    iprop((bigSepL far fun o => dutyTok ER (barCell (c + o)) 0 (-o)) ∗ buf c cc0_scratch1 fl ∗ buf c cc0_stg4_0 fo)
      ⊢ (iprop((bigSepL far fun o => sigRes c o) ∗ anyOwn c (slot 0) ∗ anyOwn c (rowsW om c)) : sProp 𝕄) := by
  unfold sigRes
  rw [bigSepL_sep, bigSepL_sep]
  iintro ⟨Ht, Hl, Ho⟩
  ihave Hs := (slots_split c fl) $$ Hl
  ihave Hs := (Entails.of_eq (far_offs.split _)) $$ Hs
  icases Hs with ⟨Hs0, Hs⟩
  ihave Ho := (Entails.of_eq (owns_whole (c : Thread nD τ) cc0_stg4_0 fullShare fo).symm) $$ Ho
  ihave Ho := (rows_split c om far_offs fo) $$ Ho
  icases Ho with ⟨Ho0, Ho⟩
  isplitl [Ht Hs Ho]
  · isplitl [Ht]; · iexact Ht
    isplitl [Hs]; · iexact Hs
    iapply (bigSepL_mono fun o _ => anyOwn_intro c (rowsW om (c + o)) _) $$ Ho
  isplitl [Hs0]; · iexact Hs0
  iapply (anyOwn_intro c (rowsW om c) _) $$ Ho0

/-- After the last waits: the four buffers whole again, and every cell closed. -/
theorem finish (c : Dev nD) :
    iprop(records m K ∗ atPos ER (barCell c) 1 ∅ 0
        ∗ atPos ER (xCell 0 c 0) 0 ∅ 0 ∗ atPos ER (xCell 1 c 0) 0 ∅ 0 ∗ atPos ER (xCell 2 c 0) 0 ∅ 0 ∗ atPos ER (xCell 3 c 0) 0 ∅ 0
        ∗ (bigSepL asc fun o => iprop(done m 0 c o ∗ done m 2 c o)) ∗ (bigSepL near fun o => done m 1 c o) ∗ (bigSepL near fun o => done m 3 c o)
        ∗ anyOwn c (slot 0) ∗ owns (c : Thread nD τ) (rowsW pm c) fullShare (rowsOf (part m c) c)
        ∗ owns (c : Thread nD τ) gm (sh 0) (red m c) ∗ owns (c : Thread nD τ) (rowsW om c) fullShare (red m c))
      ⊢ iprop(|={Set.univ}=> ((∃ f, buf c cc0_scratch0 f) ∗ (∃ f, buf c cc0_scratch1 f) ∗ (∃ f, buf c cc0_scratch2 f) ∗ zeros c
          ∗ buf c cc0_stg4_0 (outAt m))) := by
  rw [bigSepL_sep]
  unfold done
  rw [bigSepL_sep, bigSepL_sep, bigSepL_sep, bigSepL_sep]
  unfold xPay
  iintro ⟨#HR, Hb, H0, H1, H2, H3, ⟨⟨Ha0, Hp⟩, Ha2, Hg⟩, ⟨Ha1, Hs⟩, ⟨Ha3, Ho⟩, Hs0, Hp0, Hg0, Ho0⟩
  imod (close_cell m K c none 1 (duties_later m _)) $$ [Hb] with Zb
  · isplitr; · iexact HR
    iexact Hb
  imod (close_array m K c 0 asc_offs) $$ [H0 Ha0] with Z0
  · isplitr; · iexact HR
    isplitl [H0] <;> iassumption
  imod (close_array m K c 1 near_offs) $$ [H1 Ha1] with Z1
  · isplitr; · iexact HR
    isplitl [H1] <;> iassumption
  imod (close_array m K c 2 asc_offs) $$ [H2 Ha2] with Z2
  · isplitr; · iexact HR
    isplitl [H2] <;> iassumption
  imod (close_array m K c 3 near_offs) $$ [H3 Ha3] with Z3
  · isplitr; · iexact HR
    isplitl [H3] <;> iassumption
  imodintro
  isplitl [Hp0 Hp]
  · iexists (part m c)
    iapply (Entails.of_eq (owns_whole (c : Thread nD τ) cc0_scratch0 fullShare (part m c)))
    iapply (rows_join c pm asc_offs (part m c))
    isplitl [Hp0] <;> iassumption
  isplitl [Hs0 Hs]
  · iapply (slots_join c)
    iapply (Entails.of_eq (near_offs.split fun j => anyOwn c (slot j)).symm)
    isplitl [Hs0]; · iexact Hs0
    iapply (bigSepL_mono fun o _ => anyOwn_intro c (slot o) _) $$ Hs
  isplitl [Hg0 Hg]
  · iexists (red m c)
    iapply (Entails.of_eq (owns_whole (c : Thread nD τ) cc0_scratch2 fullShare (red m c)))
    iapply (Entails.of_eq (shares_eq c asc_offs (red m c)).symm)
    isplitl [Hg0] <;> iassumption
  isplitl [Zb Z0 Z1 Z2 Z3]
  · unfold zeros
    iapply (Entails.of_eq (cells_split fun k : Cell => (semVal (kcell (c, k)) 0 : sProp 𝕄)).symm)
    isplitl [Zb]; · iexact Zb
    isplitl [Z0]; · iexact Z0
    isplitl [Z1]; · iexact Z1
    isplitl [Z2] <;> iassumption
  iapply (Entails.of_eq (owns_whole (c : Thread nD τ) cc0_stg4_0 fullShare (outAt m)))
  iapply (rows_join_of c om near_offs fun b => red m b)
  isplitl [Ho0] <;> iassumption

/-- A list of sends' credits with the positions they are waited for at. -/
theorem pend_intro (c : Dev nD) (a : Fin 4) (l : List (Fin 16)) :
    iprop((bigSepL l fun o => cred (tallyAt (xCell a c o) () N)) ∗ bigSepL l fun o => atPos ER (xCell a c o) 0 ∅ 0)
      ⊢ (bigSepL l fun o => pend a c o : sProp 𝕄) := by
  unfold pend; rw [bigSepL_sep]

set_option maxHeartbeats 800000 in
/-- The body, phase by phase. -/
theorem sound_body (c : Dev nD) (fp : FVec F S256x256 .bf16) (fl : FVec F S16x16x256 .bf16) (fg : FVec F S16x256 .bf16) (fo : FVec F S256x256 .bf16)
    (Q : PUnit → sProp 𝕄) :
    iprop(bodyPre m K c fp fl fg fo ∗ (bodyPost m c -∗ Q ⟨⟩)) ⊢ Run c flat Q := by
  unfold bodyPre inCreds payToks flat
  rw [posn_eq, bigSepL_sep, bigSepL_sep]
  simp only [wp_deviceId]
  iintro ⟨⟨#HR, #Hlev, ⟨Hb, ⟨Z0, P0⟩, ⟨Z1, P1⟩, ⟨Z2, P2⟩, ⟨Z3, P3⟩⟩, ⟨Tb, T01, T23⟩, ⟨Cb, C1, C3⟩, HO, Hp, Hl, Hg, Ho, Hx, Ha, Hu, Hd⟩, Hk⟩
  -- the signals
  ihave Hsig := (sig_intro c fl fo) $$ [Tb Hl Ho]
  · isplitl [Tb]; · iexact Tb
    isplitl [Hl] <;> iassumption
  icases Hsig with ⟨Hsig, Hs0, Ho0⟩
  iapply (signals m K c (duesAg c far + duesRs c far) _ Q far far_offs.ne) $$ [HO Hsig]
  · isplitr; · iexact HR
    isplitl [HO]; · iexact HO
    iexact Hsig
  iintro HO
  -- the partial product
  iapply (wp_compute m c fp _ Q) $$ [Hx Ha Hu Hd Hp]
  · isplitl [Hx]; · iexact Hx
    isplitl [Ha]; · iexact Ha
    isplitl [Hu]; · iexact Hu
    isplitl [Hd] <;> iassumption
  iintro ⟨Hx, Ha, Hu, Hd, Hp⟩
  -- the barrier
  iapply (wp_bar m K c _ Q) $$ [HO Cb Hb]
  · isplitr; · iexact HR
    isplitr; · iexact Hlev
    isplitl [HO]; · iexact HO
    isplitl [Cb] <;> iassumption
  iintro ⟨HO, Hb, Hslots, Hrows⟩
  -- the scatter
  ihave Hp := (rows_split c pm far_offs (part m c)) $$ Hp
  icases Hp with ⟨Hp0, Hp⟩
  iapply (scatters m K c (duesAg c far) _ Q far far_offs.ne) $$ [HO Hp Hslots T01]
  · isplitr; · iexact HR
    isplitl [HO]; · iexact HO
    unfold scRes; rw [bigSepL_sep, bigSepL_sep]
    isplitl [Hp]; · unfold xPay; iexact Hp
    isplitl [Hslots] <;> iassumption
  iintro ⟨C0, HO⟩
  -- the sum
  iapply (wp_load_own c pm (k0_off2_eq c) (rowsOf (part m c) c) _ Q) $$ Hp0
  iintro Hp0
  iapply (takes m K c _ Q near near_offs.ne _) $$ [HO C1 P1]
  · isplitr; · iexact HR
    isplitr; · iexact Hlev
    isplitl [HO]; · iexact HO
    iapply (pend_intro c 1 near); isplitl [C1] <;> iassumption
  iintro ⟨HO, D1⟩
  iapply (wp_reduced c _ fg _ Q) $$ [Hg Ho0]
  · isplitl [Hg] <;> iassumption
  rw [show truncf .bf16 (near.foldl (addRow m c) (extf .f32 (rowsOf (part m c) c : FVec F S16x256 .bf16) bitsLt_bf16_f32)) bitsLt_bf16_f32 = red m c from rfl]
  iintro ⟨Hg, Ho0⟩
  -- the gather
  ihave Hg := (Entails.of_eq (shares_eq c far_offs (red m c))) $$ Hg
  icases Hg with ⟨Hg0, Hg⟩
  iapply (gathers m K c 0 _ Q far far_offs.ne) $$ [HO Hg Hrows T23]
  · isplitr; · iexact HR
    isplitl [HO]; · rw [zero_add]; iexact HO
    unfold agRes; rw [bigSepL_sep, bigSepL_sep]
    isplitl [Hg]; · unfold xPay; iexact Hg
    isplitl [Hrows] <;> iassumption
  iintro ⟨C2, HO⟩
  iapply (arrives m K c _ Q near near_offs.ne) $$ [HO C3 P3]
  · isplitr; · iexact HR
    isplitr; · iexact Hlev
    isplitl [HO]; · iexact HO
    iapply (pend_intro c 3 near); isplitl [C3] <;> iassumption
  iintro ⟨HO, D3⟩
  -- the last waits
  ihave C0 := (Entails.of_eq (far_swap c 0)) $$ C0
  ihave C2 := (Entails.of_eq (far_swap c 2)) $$ C2
  iapply (drains m K c _ Q asc asc_offs.ne) $$ [HO C0 P0 C2 P2]
  · isplitr; · iexact HR
    isplitr; · iexact Hlev
    isplitl [HO]; · iexact HO
    rw [bigSepL_sep]
    isplitl [C0 P0]
    · iapply (pend_intro c 0 asc); isplitl [C0] <;> iassumption
    iapply (pend_intro c 2 asc); isplitl [C2] <;> iassumption
  iintro ⟨HO, D02⟩
  imod (finish m K c) $$ [Hb Z0 Z1 Z2 Z3 D02 D1 D3 Hs0 Hp0 Hg0 Ho0] with ⟨Fp, Fl, Fg, Fz, Fo⟩
  · isplitr; · iexact HR
    isplitl [Hb]; · iexact Hb
    isplitl [Z0]; · iexact Z0
    isplitl [Z1]; · iexact Z1
    isplitl [Z2]; · iexact Z2
    isplitl [Z3]; · iexact Z3
    isplitl [D02]; · iexact D02
    isplitl [D1]; · iexact D1
    isplitl [D3]; · iexact D3
    isplitl [Hs0]; · iexact Hs0
    isplitl [Hp0]; · iexact Hp0
    isplitl [Hg0] <;> iassumption
  rw [wp_ret]; imodintro
  iapply Hk
  unfold bodyPost
  isplitl [HO]; · iexact HO
  isplitl [Fp]; · iexact Fp
  isplitl [Fl]; · iexact Fl
  isplitl [Fg]; · iexact Fg
  isplitl [Fz]; · iexact Fz
  isplitl [Fo]; · iexact Fo
  isplitl [Hx]; · iexact Hx
  isplitl [Ha]; · iexact Ha
  isplitl [Hu]; · iexact Hu
  iexact Hd

end Cert.Mlp

end
-- ==== Proof.Obligation.lean ====
/-
The body as the pipeline calls it: the proof data of the one call, and the library's body obligation from the execution of
the flat body.
-/
module

public import proofs.«01_k».proof.Proof.Body

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the launch deals device `c`: the records at some names, its positions, the tokens it pays with. -/
def dealt (c : Dev nD) : sProp 𝕄 := iprop(∃ K, records m K ∗ posn c ∗ bigSepL far fun o => payToks c o)

/-- What the body on device `c` starts from besides the buffers. -/
def start (c : Dev nD) : sProp 𝕄 := iprop(dealt m c ∗ inCreds c ∗ levAts L lv)

/-- The three scratch buffers, at any contents. -/
def scratch (c : Dev nD) : sProp 𝕄 := iprop((∃ f, buf c cc0_scratch0 f) ∗ (∃ f, buf c cc0_scratch1 f) ∗ (∃ f, buf c cc0_scratch2 f))

/-- The proof data of the call: the operands' blocks stay, the result is `outAt`. -/
def dats (_ : Fin 1) (c : Dev nD) : Dat τ (Elt F) Unit ℕ UU ℕ cfg0 c where
  A w := m ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => outAt m
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

theorem owns_whole_eq (c : Dev nD) (b : Ref sig .tc) (X : b.ty.Contents (Elt F)) :
    (owns (c : Thread nD τ) (Memref.whole b) fullShare X : sProp 𝕄) = buf c b X := owns_whole (c : Thread nD τ) b fullShare X

/-- The pipeline's call at the one point: its pre. -/
def callPre (c : Dev nD) : sProp 𝕄 :=
  iprop((start m c ∗ scratch c) ∗ (dats m 0 c).owesAt () t0_0.castSucc
    ∗ (∃ d, buf c cc0_stg0_0 ((dats m 0 c).before (0 : Fin 5) t0_0 d))
    ∗ (∃ d, buf c cc0_stg1_0 ((dats m 0 c).before (1 : Fin 5) t0_0 d))
    ∗ (∃ d, buf c cc0_stg2_0 ((dats m 0 c).before (2 : Fin 5) t0_0 d))
    ∗ (∃ d, buf c cc0_stg3_0 ((dats m 0 c).before (3 : Fin 5) t0_0 d))
    ∗ (∃ d, buf c cc0_stg4_0 ((dats m 0 c).before (4 : Fin 5) t0_0 d)))

/-- Its post. -/
def callPost (c : Dev nD) : sProp 𝕄 :=
  iprop((scratch c ∗ zeros c) ∗ (dats m 0 c).owesAt () t0_0.succ
    ∗ buf c cc0_stg0_0 (iblk m c 0 t0_0) ∗ buf c cc0_stg1_0 (iblk m c 1 t0_0) ∗ buf c cc0_stg2_0 (iblk m c 2 t0_0)
    ∗ buf c cc0_stg3_0 (iblk m c 3 t0_0) ∗ buf c cc0_stg4_0 (outAt m))

theorem before_0 (c : Dev nD) (d) : (dats m 0 c).before (0 : Fin 5) t0_0 d = iblk m c 0 t0_0 := by
  unfold Dat.before; rw [if_pos (fetch0_0 t0_0)]; rfl
theorem before_1 (c : Dev nD) (d) : (dats m 0 c).before (1 : Fin 5) t0_0 d = iblk m c 1 t0_0 := by
  unfold Dat.before; rw [if_pos (fetch0_1 t0_0)]; rfl
theorem before_2 (c : Dev nD) (d) : (dats m 0 c).before (2 : Fin 5) t0_0 d = iblk m c 2 t0_0 := by
  unfold Dat.before; rw [if_pos (fetch0_2 t0_0)]; rfl
theorem before_3 (c : Dev nD) (d) : (dats m 0 c).before (3 : Fin 5) t0_0 d = iblk m c 3 t0_0 := by
  unfold Dat.before; rw [if_pos (fetch0_3 t0_0)]; rfl

/-- The body from the call's pre to the call's post. -/
theorem sound_call (c : Dev nD) : callPre m c ⊢ Run c flat (fun _ => callPost m c) := by
  unfold callPre start dealt scratch Dat.owesAt Pipeline.owesWithin
  iintro ⟨⟨⟨⟨%K, HR, Hpos, Htok⟩, Hcr, Hlev⟩, ⟨%fp, Hp⟩, ⟨%fl, Hl⟩, ⟨%fg, Hg⟩⟩, ⟨%W, -, HO⟩, ⟨%d0, Hx⟩, ⟨%d1, Ha⟩, ⟨%d2, Hu⟩, ⟨%d3, Hd⟩, ⟨%d4, Ho⟩⟩
  iapply (sound_body m K c fp fl fg ((dats m 0 c).before (4 : Fin 5) t0_0 d4) fun _ => callPost m c)
  isplitl
  · unfold bodyPre
    isplitl [HR]; · iexact HR
    isplitl [Hlev]; · iexact Hlev
    isplitl [Hpos]; · iexact Hpos
    isplitl [Htok]; · iexact Htok
    isplitl [Hcr]; · iexact Hcr
    isplitl [HO]; · unfold owing; iexists W; iexact HO
    isplitl [Hp]; · iexact Hp
    isplitl [Hl]; · iexact Hl
    isplitl [Hg]; · iexact Hg
    isplitl [Ho]; · iexact Ho
    isplitl [Hx]; · rw [← before_0 m c d0]; iexact Hx
    isplitl [Ha]; · rw [← before_1 m c d1]; iexact Ha
    isplitl [Hu]; · rw [← before_2 m c d2]; iexact Hu
    rw [← before_3 m c d3]; iexact Hd
  · unfold bodyPost callPost scratch owing Dat.owesAt Pipeline.owesWithin
    iintro ⟨⟨%W', HO⟩, Hp, Hl, Hg, Hz, Ho, Hx, Ha, Hu, Hd⟩
    isplitl [Hp Hl Hg Hz]
    · isplitr [Hz]
      · isplitl [Hp]; · iexact Hp
        isplitl [Hl] <;> iassumption
      iexact Hz
    isplitl [HO]
    · iexists W'
      isplitr; · ipureintro; exact fun _ _ => Or.inl trivial
      iexact HO
    isplitl [Hx]; · iexact Hx
    isplitl [Ha]; · iexact Ha
    isplitl [Hu]; · iexact Hu
    isplitl [Hd] <;> iassumption

set_option maxRecDepth 8000 in
/-- The library's body obligation on device `c`. -/
theorem body_obligation (c : Dev nD) : BodyObligation (dats m 0 c) (defs₀ (F := F)) 𝒱₀ () Set.univ := fun t => by
  rw [fin_N0 t]
  rw [bigSep_W0, bigSep_W0]
  simp only [owns_whole_eq]
  show callPre m c ⊢ Run c (bodyAt0 t0_0) (fun _ => callPost m c)
  rw [body_eq_flat]
  exact sound_call m c

end Cert.Mlp

end
-- ==== Proof.Launch.lean ====
/-
The launch: the cells' invariants and duty tokens minted and dealt to the devices that use them, what the peers owe each
device counted, and the run of the whole program on all sixteen devices.
-/
module

public import proofs.«01_k».proof.Proof.Obligation
public import Idealize.ShloMosaic.Lib.Pipeline.CollectiveSegs

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Dat.share; split <;> rfl

/-! ## Minting and dealing -/

def allCells : Finset (GSem nD τ sig) := Finset.univ.map ⟨kcell, kcell_injective⟩

/-- The tokens as minted: by cell family (`none` the barriers, `some a` array `a`), device and offset. -/
abbrev tokOf (x : Option (Fin 4) × (Dev nD × Fin 16)) : GSem nD τ sig × ℕ × Fin 16 := match x.1 with
  | none => (barCell x.2.1, 0, x.2.2)
  | some a => (xCell a x.2.1 x.2.2, 0, 0)

theorem tokOf_injective : Function.Injective tokOf := by
  rintro ⟨i, c, o⟩ ⟨i', c', o'⟩ h
  have hc := congrArg (fun t : GSem nD τ sig × ℕ × Fin 16 => t.1) h
  have ho := congrArg (fun t : GSem nD τ sig × ℕ × Fin 16 => t.2.2) h
  cases i with
  | none =>
    cases i' with
    | none =>
      have := kcell_injective (a₁ := (c, none)) (a₂ := (c', none)) hc
      simp only [Prod.mk.injEq] at this
      rw [this.1, show o = o' from ho]
    | some a' =>
      have := kcell_injective (a₁ := (c, none)) (a₂ := (c', some (a', o'))) hc
      exact absurd (congrArg Prod.snd this) (by simp)
  | some a =>
    cases i' with
    | none =>
      have := kcell_injective (a₁ := (c, some (a, o))) (a₂ := (c', none)) hc
      exact absurd (congrArg Prod.snd this) (by simp)
    | some a' =>
      have := kcell_injective (a₁ := (c, some (a, o))) (a₂ := (c', some (a', o'))) hc
      simp only [Prod.mk.injEq, Option.some.injEq] at this
      obtain ⟨h1, h2, h3⟩ := this
      rw [h1, h2, h3]

def allToks : Finset (GSem nD τ sig × ℕ × Fin 16) := Finset.univ.map ⟨tokOf, tokOf_injective⟩

/-- The launch element of the ghost state. -/
def u₀ : UU := (initOf (Pipeline.cells cfgs cellOf_inj) (Pipeline.launchToks cfgs cellOf_inj), initOf allCells allToks)

/-- Device and offset, seen from the other end of the transfer: its own inverse. -/
def across : (Dev nD × Fin 16) ≃ (Dev nD × Fin 16) where
  toFun x := (x.1 + x.2, -x.2)
  invFun x := (x.1 + x.2, -x.2)
  left_inv := fun ⟨c, o⟩ => by dsimp only; rw [add_back, neg_neg16]
  right_inv := fun ⟨c, o⟩ => by dsimp only; rw [add_back, neg_neg16]

/-- The minted tokens, each dealt to the device that pays the duty. -/
theorem toks_across : (bigSep allToks fun x => (dutyTok ER x.1 x.2.1 x.2.2 : sProp 𝕄))
    ⊢ bigSep Finset.univ fun c : Dev nD => bigSepL far fun o => payToks c o := by
  have h1 : (bigSep allToks fun x => (dutyTok ER x.1 x.2.1 x.2.2 : sProp 𝕄))
      = iprop((bigSep Finset.univ fun x : Dev nD × Fin 16 => dutyTok ER (barCell x.1) 0 x.2)
        ∗ (bigSep Finset.univ fun x : Dev nD × Fin 16 => dutyTok ER (xCell 0 x.1 x.2) 0 0)
        ∗ (bigSep Finset.univ fun x : Dev nD × Fin 16 => dutyTok ER (xCell 1 x.1 x.2) 0 0)
        ∗ (bigSep Finset.univ fun x : Dev nD × Fin 16 => dutyTok ER (xCell 2 x.1 x.2) 0 0)
        ∗ (bigSep Finset.univ fun x : Dev nD × Fin 16 => dutyTok ER (xCell 3 x.1 x.2) 0 0)) := by
    unfold allToks; rw [bigSep_map, bigSep_univ_prod, bigSep_univ_eq_bigSepL [none, some 0, some 1, some 2, some 3] (by decide) (by decide)]; rfl
  have h2 (c : Dev nD) : (bigSep Finset.univ fun o : Fin 16 => (payToks c o : sProp 𝕄)) ⊢ bigSepL far fun o => payToks c o := by
    rw [far_offs.split]; iintro ⟨-, H⟩; iexact H
  have h3 : (bigSep Finset.univ fun x : Dev nD × Fin 16 => (payToks x.1 x.2 : sProp 𝕄)) ⊢ bigSep Finset.univ fun c : Dev nD => bigSepL far fun o => payToks c o := by
    rw [bigSep_univ_prod]; exact bigSep_mono fun c _ => h2 c
  refine BIBase.Entails.trans ?_ h3
  rw [h1, bigSep_univ_equiv across (fun x : Dev nD × Fin 16 => (dutyTok ER (barCell x.1) 0 x.2 : sProp 𝕄)),
    bigSep_univ_equiv across (fun x : Dev nD × Fin 16 => (dutyTok ER (xCell 1 x.1 x.2) 0 0 : sProp 𝕄)),
    bigSep_univ_equiv across (fun x : Dev nD × Fin 16 => (dutyTok ER (xCell 3 x.1 x.2) 0 0 : sProp 𝕄))]
  unfold payToks toks2
  rw [bigSep_sep', bigSep_sep', bigSep_sep', bigSep_sep']
  iintro ⟨Hb, H0, H1, H2, H3⟩
  isplitl [Hb]; · iexact Hb
  isplitl [H0 H1]
  · isplitl [H0]; · iexact H0
    iexact H1
  isplitl [H2]; · iexact H2
  iexact H3

/-- What the launch element deals device `c`. -/
def G (c : Dev nD) : sProp 𝕄 :=
  iprop((bigSep Finset.univ fun k : Cell => roundState ER (Rd m) (kcell (c, k)) 0)
    ∗ ((bigSep Finset.univ fun k : Cell => atPos ER (kcell (c, k)) 0 ∅ 0) ∗ bigSep Finset.univ fun k : Cell => reached ER (kcell (c, k)) 0)
    ∗ bigSepL far fun o => payToks c o)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (toks_across (F := F)) $$ Htok
  unfold G
  rw [bigSep_sep', bigSep_sep', bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = bigSep Finset.univ fun x : Fin 4 × Fin 16 => semVal (kcell (c, some x)) 0 := rfl
theorem unscopedSems0_eq (c : Dev nD) : (unscopedSems0 c : sProp 𝕄) = semVal (barCell c) 0 := by
  unfold unscopedSems0; rw [bigSep_eq_bigSepL_of_eq [SemLoc.reg (sig.barrier 0 rfl)] (by decide) (by decide)]; rfl

/-- The kernel's own semaphores and the runtime's barrier semaphore are the device's cells. -/
theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  rw [ownSems0_eq, unscopedSems0_eq]; unfold zeros
  rw [bigSep_univ_at _ (none : Cell), show (Finset.univ.erase none : Finset Cell) = Finset.univ.map ⟨some, Option.some_injective _⟩ from by decide +kernel,
    bigSep_map]
  rfl

/-- One device's cells' invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : Cell => atPos ER (kcell (c, k)) 0 ∅ 0) ∗ bigSep Finset.univ fun k : Cell => reached ER (kcell (c, k)) 0)
          ∗ bigSepL far fun o => payToks c o) := by
  have hz := sems0_eq (F := F) c
  unfold zeros at hz
  unfold G
  iintro ⟨Hos, Hus, Hst, Hat, Htok⟩
  ihave Hv := (Entails.of_eq hz.symm) $$ [Hos Hus]
  · isplitl [Hus] <;> iassumption
  imod (show iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Something persistent handed to every member of a family. -/
theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names gathered, and every device given all the records. -/
theorem regroup :
    (bigSep Finset.univ fun c : Dev nD => iprop((bigSep Finset.univ fun k => iprop(∃ κ : ℕ, cellInv ER (Rd m) κ (kcell (c, k))))
          ∗ ((bigSep Finset.univ fun k : Cell => atPos ER (kcell (c, k)) 0 ∅ 0) ∗ bigSep Finset.univ fun k : Cell => reached ER (kcell (c, k)) 0)
          ∗ bigSepL far fun o => payToks c o) : sProp 𝕄)
      ⊢ bigSep Finset.univ (dealt m) := by
  rw [bigSep_sep', bigSep_sep', bigSep_sep', ← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  iapply (deal_persistent (R := records m K) (Φ := fun c : Dev nD => iprop(posn c ∗ bigSepL far fun o => payToks c o)) fun c _ => by
    unfold dealt; iintro ⟨HR, HL⟩; iexists K; isplitl [HR] <;> iassumption)
  isplitr
  · unfold records; isplitl; · iexact HI
    iexact HR
  · rw [bigSep_sep']
    isplitl [Hat]; · unfold posn; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## What the peers owe -/

/-- A cell's launch credit, counted. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem count_none {p : Fin 16 → Bool} (h : ∀ o, p o = false) (l : List (Fin 16)) : l.countP p = 0 :=
  List.countP_eq_zero.mpr fun o _ => by rw [h o]; decide

theorem bar_count : ∀ c : Dev nD, ∑ d : Dev nD, far.countP (fun o => decide (c = d + o)) = 15 := by decide +kernel
theorem x_count : ∀ (c : Dev nD) (j : Fin 16), j ≠ 0 → ∑ d : Dev nD, far.countP (fun o => decide (c = d + o ∧ j = -o)) = 1 := by decide +kernel

/-- Cells of different kinds differ. -/
theorem cell_ne {c c' : Dev nD} {k k' : Cell} (h : k ≠ k') : kcell (c, k) ≠ kcell (c', k') := fun e =>
  h (congrArg Prod.snd (kcell_injective e))

theorem owed_bar (c : Dev nD) : ∑ d : Dev nD, O₀ d (barCell c) () = 15 := by
  rw [← bar_count c]
  refine Finset.sum_congr rfl fun d _ => ?_
  unfold O₀
  rw [Pi.add_apply, Finsupp.add_apply, Pi.add_apply, Finsupp.add_apply, dues_apply, dues_apply, dues_apply,
    count_none (p := fun o => decide (barCell c = xCell 3 (d + o) (-o))) fun o => decide_eq_false (cell_ne (k := none) (k' := some (3, -o)) (by simp)),
    count_none (p := fun o => decide (barCell c = xCell 1 (d + o) (-o))) fun o => decide_eq_false (cell_ne (k := none) (k' := some (1, -o)) (by simp)), Nat.zero_mul, Nat.zero_add, Nat.mul_one]
  simp only [barCell_eq_iff]

theorem owed_x (a : Fin 4) (ha : a = 1 ∨ a = 3) (c : Dev nD) (j : Fin 16) (hj : j ≠ 0) : ∑ d : Dev nD, O₀ d (xCell a c j) () = N := by
  have hs : ∑ d : Dev nD, far.countP (fun o => decide (xCell a c j = xCell a (d + o) (-o))) * N = N := by
    simp only [xCell_eq_iff]
    rw [← Finset.sum_mul, x_count c j hj, Nat.one_mul]
  refine Eq.trans (Finset.sum_congr rfl fun d _ => ?_) hs
  unfold O₀
  rw [Pi.add_apply, Finsupp.add_apply, Pi.add_apply, Finsupp.add_apply, dues_apply, dues_apply, dues_apply,
    count_none (p := fun o => decide (xCell a c j = barCell (d + o))) fun o => decide_eq_false (cell_ne (k := some (a, j)) (k' := none) (by simp)),
    Nat.zero_mul, Nat.add_zero]
  rcases ha with rfl | rfl
  · rw [count_none (p := fun o => decide (xCell 1 c j = xCell 3 (d + o) (-o))) fun o =>
      decide_eq_false (cell_ne (k := some (1, j)) (k' := some (3, -o)) (by simp)), Nat.zero_mul, Nat.zero_add]
  · rw [count_none (p := fun o => decide (xCell 3 c j = xCell 1 (d + o) (-o))) fun o =>
      decide_eq_false (cell_ne (k := some (3, j)) (k' := some (1, -o)) (by simp)), Nat.zero_mul, Nat.add_zero]

/-- The launch credit of device `c` has what its peers owe it. -/
theorem creds (c : Dev nD) : (Pipeline.launchCred O₀ c : sProp 𝕄) ⊢ inCreds c := by
  have hx (a : Fin 4) (ha : a = 1 ∨ a = 3) :
      (bigSep Finset.univ fun o : Fin 16 => (cred (tallyOn (xCell a c o) (launchCredit (Pipeline.owing O₀) 0 (xCell a c o))) : sProp 𝕄))
        ⊢ bigSepL near fun o => cred (tallyAt (xCell a c o) () N) := by
    rw [near_offs.split, ← near_offs.rest, ← near_offs.rest]
    rw [bigSep_congr (s := (Finset.univ : Finset (Fin 16)).erase 0)
      (fun o ho => congrArg (fun t => (cred t : sProp 𝕄)) (launch_at (xCell a c o) N (owed_x a ha c o (Finset.ne_of_mem_erase ho))))]
    iintro ⟨-, H⟩; iexact H
  unfold Pipeline.launchCred inCreds
  refine BIBase.Entails.trans (bigSep_subset (Finset.subset_univ (Finset.univ.map ⟨csem, csem_injective⟩))) ?_
  have hk : (bigSep (Finset.univ.map ⟨csem, csem_injective⟩) fun sm : SemLoc sig =>
        (cred (tallyOn ((c.tc : Thread nD τ), sm) (launchCredit (Pipeline.owing O₀) 0 ((c.tc : Thread nD τ), sm))) : sProp 𝕄))
      = bigSep Finset.univ fun k : Cell => cred (tallyOn (kcell (c, k)) (launchCredit (Pipeline.owing O₀) 0 (kcell (c, k)))) := by
    rw [bigSep_map]; rfl
  have hx' (a : Fin 4) (ha : a = 1 ∨ a = 3) :
      (bigSep Finset.univ fun o : Fin 16 => (cred (tallyOn (kcell (c, some (a, o))) (launchCredit (Pipeline.owing O₀) 0 (kcell (c, some (a, o))))) : sProp 𝕄))
        ⊢ bigSepL near fun o => cred (tallyAt (xCell a c o) () N) := hx a ha
  rw [hk, cells_split]
  iintro ⟨Hb, -, H1, -, H3⟩
  isplitl [Hb]; · rw [← launch_at (barCell c) 15 (owed_bar c)]; iexact Hb
  isplitl [H1]
  · iapply (hx' 1 (Or.inl rfl)) $$ H1
  iapply (hx' 3 (Or.inr rfl)) $$ H3

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

theorem phi_last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scopedRest0_eq, sems0_eq]
  unfold scratch
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- An array after the run. -/
def finalA (c : Dev nD) (w : Fin cfg0.W) : Buf (Elt F) ((cfg0.win w).arr.view.loc (c : Thread nD τ)) := (dats m 0 c).arrAt w cfg0.N

/-- Every array of every device is what the proof data say. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On sixteen devices, for any float values and from any memory with zero counters, every weakly fair execution of the
    program terminates, and every final state has each device's arrays at the computed contents and every semaphore
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Frames.lean ====
/-
The frames: each program runs to its end, leaves its arguments as they were, and leaves every semaphore at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy

@[expose] public section

noncomputable section

namespace Cert.Mlp

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- After the run every device's four operands hold what they held. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats m 0 c).arrAt_in (0 : Fin 5) rfl _), (h c (1 : Fin 5)).trans ((dats m 0 c).arrAt_in (1 : Fin 5) rfl _),
    (h c (2 : Fin 5)).trans ((dats m 0 c).arrAt_in (2 : Fin 5) rfl _), (h c (3 : Fin 5)).trans ((dats m 0 c).arrAt_in (3 : Fin 5) rfl _)⟩

/-- The run, at the operands and the semaphores. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => args_kept m h.1 c, h.2⟩) (run_main m ρ)

end Cert.Mlp

namespace Cert.Proof

open Idealize.ShloMosaic Idealize.SL.Sem

attribute [local instance] Cert.Kernel.Gen.facts Cert.KernelIdeal.Gen.facts

set_option maxRecDepth 100000 in
/-- The two printed kernels run one body: no operation was replaced. -/
theorem body_same : Cert.Kernel.cc0_body (F := Bits) = Cert.KernelIdeal.cc0_body (F := Bits) := rfl

/-- So their kernel tables agree. -/
theorem defs₀_same : Cert.Kernel.defs₀ (F := Bits) = Cert.KernelIdeal.defs₀ (F := Bits) := by
  funext p
  cases p
  · funext ℓ a
    obtain ⟨ℓ, hℓ⟩ := ℓ
    cases ℓ with
    | zero =>
      dsimp only [Cert.Kernel.defs₀, Cert.KernelIdeal.defs₀, Defs.onTc]
      rw [body_same]
    | succ n => exact absurd hℓ (Nat.not_lt.2 (Nat.le_add_left _ _))
  · rfl
  · rfl

/-- And so do their whole tables. -/
theorem defs_same : Cert.Kernel.defs (F := Bits) = Cert.KernelIdeal.defs (F := Bits) :=
  congrArg (Pipeline.defs (Cert.KernelIdeal.pcfgs (F := Bits))) defs₀_same

/-- The frame of the kernel over bits. -/
theorem frame_kernel : Cert.quiescent_Kernel (hKernel := Cert.Kernel.Gen.facts) := by
  intro m ρ _
  rw [defs_same]
  exact Cert.Mlp.run_frame (F := Bits) m ρ

/-- The frame of the kernel over the reals. -/
theorem frame_kernelIdeal : Cert.quiescent_KernelIdeal (hKernelIdeal := Cert.KernelIdeal.Gen.facts) := fun m ρ _ =>
  Cert.Mlp.run_frame (F := Ideal) m ρ

/-- The frame of the reference: it has no semaphores. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Payload.lean ====
/-
What one device computes of its share of the hidden columns, and what the reference computes of all of them, each read at one
entry over the extended reals: sums over the hidden columns of the gated entry times the down projection's.
-/
module

public import proofs.«01_k».proof.Proof.Gen.KernelIdeal.Skeleton
public import proofs.«01_k».proof.Proof.Gen.ReferenceIdeal
public import Idealize.ShloMosaic.Lib.MatmulPlain
public import Idealize.ShloMosaic.Lib.StackMember

@[expose] public section

noncomputable section

namespace Cert.Mlp

open Idealize.ShloMosaic Idealize.ShloMosaic.ValueIdx Idealize.ShloMosaic.StackMember
open scoped BigOperators

/-- An array of the given rows and columns of extended reals. -/
local notation "Arr" M:max N:max => (Shape.Idx ⟨2, ![M, N]⟩ → EReal)

/-- The gate `p` times the swish of `q`: `p · (q / (1 + exp (−q)))`. -/
def gated (p q : EReal) : EReal := p * Ideal.div q (Ideal.ofBits .f32 0x3F800000#32 + Ideal.exp (-q))

/-- The inner product of row `r` of `x` with column `k` of `w`. -/
def proj {K : Nat} (x : Arr 256 256) (w : Arr 256 K) (r : Fin 256) (k : Fin K) : EReal := ∑ a : Fin 256, x (ix2 r a) * w (ix2 a k)

/-- What hidden column `k` adds to entry `(r, l)` of the result. -/
def term {K : Nat} (x : Arr 256 256) (g u : Arr 256 K) (d : Arr K 256) (r l : Fin 256) (k : Fin K) : EReal :=
  gated (proj x g r k) (proj x u r k) * d (ix2 k l)

section Kernel
open Cert.KernelIdeal Cert.KernelIdeal.Gen

theorem in_plain : dot_S256x256_S256x512_S256x512_1_0_0_1_n_n = DotDims.plain 256 256 512 := rfl
theorem out_plain : dot_S256x512_S512x256_S256x256_1_0_0_1_n_n = DotDims.plain 256 512 256 := rfl

/-- A cast to the same shape changes nothing. -/
theorem cast_same {α : Type} {s : Shape} (x : s.Idx → α) (h : s.ShapeCasts s) : shapeCast s x h = x :=
  funext fun i => congrArg _ (Shape.reshapeEquiv_self h i)

/-- Entry `(r, l)` of a device's partial product: the sum over its 512 hidden columns. -/
theorem pay1_apply (x : Arr 256 256) (g u : Arr 256 512) (d : Arr 512 256) (r l : Fin 256) :
    k0_pay1 (F := Ideal) x g u d (ix2 r l) = ∑ k : Fin 512, term x g u d r l k := by
  unfold k0_pay1
  simp only [cast_same, in_plain, out_plain]
  show FloatOps.matmul (F := Ideal) (φ₁ := .bf16) (φ₂ := .bf16) (DotDims.plain 256 512 256) none _ _ _ (ix2 r l) = _
  rw [Ideal.matmul_plain_apply]
  show Ideal.ofBits .f32 0x00000000#32 + _ = _
  rw [Ideal.ofBits_zero_f32, zero_add]
  refine Finset.sum_congr rfl fun k _ => ?_
  have hp (w : Arr 256 512) : FloatOps.matmul (F := Ideal) (φ₁ := .bf16) (φ₂ := .bf16) (DotDims.plain 256 256 512) none x w
      (constant ⟨2, ![256, 512]⟩ .f32 0x00000000#32) (ix2 r k) = proj x w r k := by
    rw [Ideal.matmul_plain_apply]
    show Ideal.ofBits .f32 0x00000000#32 + _ = _
    rw [Ideal.ofBits_zero_f32, zero_add]; rfl
  refine congrArg (· * d (ix2 k l)) ?_
  show FloatOps.matmul (F := Ideal) (φ₁ := .bf16) (φ₂ := .bf16) (DotDims.plain 256 256 512) none x g _ (ix2 r k)
    * Ideal.div (FloatOps.matmul (F := Ideal) (φ₁ := .bf16) (φ₂ := .bf16) (DotDims.plain 256 256 512) none x u _ (ix2 r k))
        (Ideal.ofBits .f32 0x3F800000#32 + Ideal.exp (Ideal.ofBits .f32 0x00000000#32
          - FloatOps.matmul (F := Ideal) (φ₁ := .bf16) (φ₂ := .bf16) (DotDims.plain 256 256 512) none x u _ (ix2 r k))) = _
  rw [hp, hp, Ideal.ofBits_zero_f32, zero_sub]; rfl

end Kernel

section Reference
open Cert.ReferenceIdeal Cert.ReferenceIdeal.Gen

theorem ref_in_plain : dot_S256x256_S256x8192_S256x8192_1_0_0_1_n_n = DotDims.plain 256 256 8192 := rfl
theorem ref_out_plain : dot_S256x8192_S8192x256_S256x256_1_0_0_1_n_n = DotDims.plain 256 8192 256 := rfl

/-- The reference's result, of its four arguments. -/
def refOut (x : Arr 256 256) (g u : Arr 256 8192) (d : Arr 8192 256) : Arr 256 256 :=
  truncf (F := Ideal) .bf16 (Host.dotGeneral dot_S256x8192_S8192x256_S256x256_1_0_0_1_n_n none
    (mulf (Host.dotGeneral dot_S256x256_S256x8192_S256x8192_1_0_0_1_n_n none (extf (F := Ideal) (φ := .bf16) .f32 x bitsLt_bf16_f32) (extf (F := Ideal) (φ := .bf16) .f32 g bitsLt_bf16_f32))
      (Host.divf (Host.dotGeneral dot_S256x256_S256x8192_S256x8192_1_0_0_1_n_n none (extf (F := Ideal) (φ := .bf16) .f32 x bitsLt_bf16_f32) (extf (F := Ideal) (φ := .bf16) .f32 u bitsLt_bf16_f32))
        (addf (broadcastInDim S256x8192 ![] bcast_S_S256x8192 (constant S_ .f32 0x3F800000#32))
          (Host.exp (Host.negf (Host.dotGeneral dot_S256x256_S256x8192_S256x8192_1_0_0_1_n_n none (extf (F := Ideal) (φ := .bf16) .f32 x bitsLt_bf16_f32) (extf (F := Ideal) (φ := .bf16) .f32 u bitsLt_bf16_f32)))))))
    (extf (F := Ideal) (φ := .bf16) .f32 d bitsLt_bf16_f32)) bitsLt_bf16_f32

/-- Entry `(r, l)` of the reference's result: the sum over all 8192 hidden columns. -/
theorem refOut_apply (x : Arr 256 256) (g u : Arr 256 8192) (d : Arr 8192 256) (r l : Fin 256) :
    refOut x g u d (ix2 r l) = ∑ k : Fin 8192, term x g u d r l k := by
  unfold refOut
  simp only [ref_in_plain, ref_out_plain]
  show Host.dotGeneral (F := Ideal) (DotDims.plain 256 8192 256) none _ _ (ix2 r l) = _
  rw [dotGeneral_plain_apply]
  refine Finset.sum_congr rfl fun k _ => congrArg (· * d (ix2 k l)) ?_
  have hp (w : Arr 256 8192) : Host.dotGeneral (F := Ideal) (φ₁ := .f32) (φ₂ := .f32) (DotDims.plain 256 256 8192) none x w (ix2 r k) = proj x w r k :=
    dotGeneral_plain_apply ..
  show Host.dotGeneral (F := Ideal) (φ₁ := .f32) (φ₂ := .f32) (DotDims.plain 256 256 8192) none x g (ix2 r k)
    * Ideal.div (Host.dotGeneral (F := Ideal) (φ₁ := .f32) (φ₂ := .f32) (DotDims.plain 256 256 8192) none x u (ix2 r k))
        (Ideal.ofBits .f32 0x3F800000#32 + Ideal.exp (-
          Host.dotGeneral (F := Ideal) (φ₁ := .f32) (φ₂ := .f32) (DotDims.plain 256 256 8192) none x u (ix2 r k))) = _
  rw [hp, hp]; rfl

end Reference

end Cert.Mlp

end
-- ==== Proof.Reduce.lean ====
/-
The reduction and the gathering over the extended reals: each entry of the gathered result is the sum of the sixteen
devices' partial products at that entry.
-/
module

public import proofs.«01_k».proof.Proof.Body
public import Idealize.ShloMosaic.PureOps.Ideal

@[expose] public section

noncomputable section

namespace Cert.Mlp

open Cert.KernelIdeal Cert.KernelIdeal.Gen
open Idealize.ShloMosaic Idealize.ShloMosaic.TcCoe
open scoped BigOperators

/-- Arrays added one after another, read at an entry: the sum of their entries there. -/
theorem foldl_addf {s : Shape} {ι : Type} (f : ι → FVec Ideal s .f32) (i : s.Idx) :
    ∀ (l : List ι) (a : FVec Ideal s .f32), (l.foldl (fun acc j => addf acc (f j)) a) i = a i + (l.map fun j => (f j i : EReal)).sum
  | [], a => (add_zero (a i : EReal)).symm
  | j :: l, a => by
    rw [List.foldl_cons, foldl_addf f i l (addf a (f j)), List.map_cons, List.sum_cons, ← add_assoc]
    rfl

/-- A sum over the sixteen devices is the device's own summand and the others' along the list. -/
theorem Offs.sum {l : List (Fin 16)} (h : Offs l) (c : Dev nD) (f : Fin 16 → EReal) :
    f c + (l.map fun o => f (c + o)).sum = ∑ d : Fin 16, f d := by
  rw [← Equiv.sum_comp (fromDev c) f, h.all, List.sum_toFinset _ h.nodup, List.map_cons, List.sum_cons]
  show _ = f (c + 0) + _
  rw [add_zero16]; rfl

/-- The reduction of any sixteen arrays, in any order of the others, read at an entry of the row block. -/
theorem reduce_apply (P : Fin 16 → FVec Ideal S256x256 .bf16) {l : List (Fin 16)} (h : Offs l) (c : Dev nD) (j : S16x256.Idx) :
    truncf .bf16 (l.foldl (fun acc o => addf acc (extf .f32 (rowsOf (P (c + o)) c : FVec Ideal S16x256 .bf16) bitsLt_bf16_f32))
        (extf .f32 (rowsOf (P c) c : FVec Ideal S16x256 .bf16) bitsLt_bf16_f32)) bitsLt_bf16_f32 j
      = ∑ d : Fin 16, (P d ((rowRect c).emb j) : EReal) := by
  rw [← h.sum c fun d => (P d ((rowRect c).emb j) : EReal)]
  exact foldl_addf (fun o => extf .f32 (rowsOf (P (c + o)) c : FVec Ideal S16x256 .bf16) bitsLt_bf16_f32) j l _

variable (m : (ℓ : Loc nD τ sig) → Buf (Elt Ideal) ℓ)

/-- An entry of a device's reduced row block is the sum of the devices' partial products there. -/
theorem red_apply (c : Dev nD) (j : S16x256.Idx) : red m c j = ∑ d : Fin 16, (part m d ((rowRect c).emb j) : EReal) := by
  unfold red
  exact reduce_apply (part m) near_offs c j

/-- Every entry of an array of 256 rows lies in one of its sixteen row blocks. -/
theorem exists_block (i : S256x256.Idx) : ∃ (b : Fin 16) (j : S16x256.Idx), (rowRect b).emb j = i := by
  obtain ⟨b, -, hb⟩ := Finset.mem_biUnion.mp (rowRect_cover.symm ▸ Finset.mem_univ i)
  rw [← Rect.map_emb_univ, Finset.mem_map] at hb
  obtain ⟨j, -, hj⟩ := hb
  exact ⟨b, j, hj⟩

/-- An entry of the gathered result is the sum of the devices' partial products there. -/
theorem outAt_apply (i : S256x256.Idx) : outAt m i = ∑ d : Fin 16, (part m d i : EReal) := by
  obtain ⟨b, j, rfl⟩ := exists_block i
  exact (congrFun (rowsOf_ofRows (fun b => red m b) b) j).trans (red_apply m b j)

end Cert.Mlp

end
-- ==== Proof.Result.lean ====
/-
What the arrays hold: a device's operand blocks are its whole operands, and its result array ends at the sixteen reduced row
blocks.
-/
module

public import proofs.«01_k».proof.Proof.Launch
public import Idealize.ShloMosaic.Lib.Pipeline.Value

@[expose] public section

noncomputable section

namespace Cert.Mlp

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (c : Dev nD)

/-- Reading a window that covers its buffer from the first element on reads the buffer. -/
theorem iblk_0 : iblk m c 0 t0_0 = m ((c : Thread nD τ).loc main_arg0) :=
  Memref.read_access_unit_zero (Elt F) main_arg0 (funext fun a => Nat.zero_mul _) (fun a => by fin_cases a <;> decide) _
theorem iblk_1 : iblk m c 1 t0_0 = m ((c : Thread nD τ).loc main_arg1) :=
  Memref.read_access_unit_zero (Elt F) main_arg1 (funext fun a => Nat.zero_mul _) (fun a => by fin_cases a <;> decide) _
theorem iblk_2 : iblk m c 2 t0_0 = m ((c : Thread nD τ).loc main_arg2) :=
  Memref.read_access_unit_zero (Elt F) main_arg2 (funext fun a => Nat.zero_mul _) (fun a => by fin_cases a <;> decide) _
theorem iblk_3 : iblk m c 3 t0_0 = m ((c : Thread nD τ).loc main_arg3) :=
  Memref.read_access_unit_zero (Elt F) main_arg3 (funext fun a => Nat.zero_mul _) (fun a => by fin_cases a <;> decide) _

/-- A device's partial product is the payload of its four operands. -/
theorem part_eq : part m c = k0_pay1 (m ((c : Thread nD τ).loc main_arg0)) (m ((c : Thread nD τ).loc main_arg1))
    (m ((c : Thread nD τ).loc main_arg2)) (m ((c : Thread nD τ).loc main_arg3)) := by
  unfold part; rw [iblk_0, iblk_1, iblk_2, iblk_3]

/-- Every device's result array ends at the sixteen reduced row blocks. -/
theorem finalA_out : finalA m c (4 : Fin 5) = outAt m := by
  refine (dats m 0 c).arrAt_eq_of_cover (4 : Fin 5) (outAt m) (fun t _ => ?_) fun i => ⟨t0_0, flush0_4 _, ?_⟩
  · obtain rfl := fin_N0 t
    exact (Memref.read_access_unit_zero (Elt F) main_v1 (funext fun a => Nat.zero_mul _) (fun a => by fin_cases a <;> decide) (outAt m)).symm
  · show i ∈ ((View.whole main_v1).slice (win0_4.rect t0_0)).set
    rw [View.set_slice_whole, Rect.set_eq_univ_of_whole]
    · exact Finset.mem_univ _
    · exact fun a => ⟨Nat.zero_mul _, rfl, rfl⟩

end Cert.Mlp

end
-- ==== Proof.Equation.lean ====
/-
The equation: the sixteen devices' partial products, each over its 512 hidden columns, add up to the reference's product over
all 8192.
-/
module

public import proofs.«01_k».proof.Proof.Payload
public import proofs.«01_k».proof.Proof.Reduce
public import proofs.«01_k».proof.Proof.Result
public import Idealize.ShloMosaic.Lib.Layout

@[expose] public section

noncomputable section

namespace Cert.Mlp

open Cert.KernelIdeal Cert.KernelIdeal.Gen
open Idealize.ShloMosaic Idealize.ShloMosaic.TcCoe Idealize.ShloMosaic.ValueIdx
open scoped BigOperators

/-- Hidden column `k` of device `c` among all the hidden columns. -/
def hidden (c : Fin 16) (k : Fin 512) : Fin 8192 := ⟨c.val * 512 + k.val, by omega⟩

/-- A sum over all hidden columns, device by device. -/
theorem sum_hidden (f : Fin 8192 → EReal) : ∑ k : Fin 8192, f k = ∑ c : Fin 16, ∑ k : Fin 512, f (hidden c k) := by
  rw [← Equiv.sum_comp (finProdFinEquiv (m := 16) (n := 512)) f, Fintype.sum_prod_type]
  refine Finset.sum_congr rfl fun c _ => Finset.sum_congr rfl fun k _ => congrArg f (Fin.ext ?_)
  show k.val + 512 * c.val = c.val * 512 + k.val
  omega

/-- An entry of a block of columns. -/
theorem block_cols (c : Fin 16) (w : Shape.Idx ⟨2, ![256, 8192]⟩ → EReal) (a : Fin 256) (k : Fin 512) :
    Layout.block ⟨2, ![256, 512]⟩ ⟨2, ![256, 8192]⟩ 1 16 c w (by decide) (ix2 a k) = w (ix2 a (hidden c k)) :=
  congrArg w (funext fun b => Fin.ext (by fin_cases b <;> rfl))

/-- An entry of a block of rows. -/
theorem block_rows (c : Fin 16) (w : Shape.Idx ⟨2, ![8192, 256]⟩ → EReal) (k : Fin 512) (l : Fin 256) :
    Layout.block ⟨2, ![512, 256]⟩ ⟨2, ![8192, 256]⟩ 0 16 c w (by decide) (ix2 k l) = w (ix2 (hidden c k) l) :=
  congrArg w (funext fun b => Fin.ext (by fin_cases b <;> rfl))

/-- A hidden column's summand on the device that holds it is its summand in the whole product. -/
theorem term_block (c : Fin 16) (x : Shape.Idx ⟨2, ![256, 256]⟩ → EReal) (g u : Shape.Idx ⟨2, ![256, 8192]⟩ → EReal)
    (d : Shape.Idx ⟨2, ![8192, 256]⟩ → EReal) (r l : Fin 256) (k : Fin 512) :
    term x (Layout.block ⟨2, ![256, 512]⟩ ⟨2, ![256, 8192]⟩ 1 16 c g (by decide)) (Layout.block ⟨2, ![256, 512]⟩ ⟨2, ![256, 8192]⟩ 1 16 c u (by decide))
        (Layout.block ⟨2, ![512, 256]⟩ ⟨2, ![8192, 256]⟩ 0 16 c d (by decide)) r l k
      = term x g u d r l (hidden c k) := by
  unfold term proj
  simp only [block_cols, block_rows]

variable (m : (ℓ : Loc nD τ sig) → Buf (Elt Ideal) ℓ)

/-- When every device holds `x` whole and its blocks of `g`, `u` and `d`, the gathered result is the reference's. -/
theorem outAt_eq (x : Shape.Idx ⟨2, ![256, 256]⟩ → EReal) (g u : Shape.Idx ⟨2, ![256, 8192]⟩ → EReal) (d : Shape.Idx ⟨2, ![8192, 256]⟩ → EReal)
    (hx : ∀ c : Dev nD, m ((c : Thread nD τ).loc main_arg0) = x)
    (hg : ∀ c : Dev nD, m ((c : Thread nD τ).loc main_arg1) = Layout.block ⟨2, ![256, 512]⟩ ⟨2, ![256, 8192]⟩ 1 16 c g (by decide))
    (hu : ∀ c : Dev nD, m ((c : Thread nD τ).loc main_arg2) = Layout.block ⟨2, ![256, 512]⟩ ⟨2, ![256, 8192]⟩ 1 16 c u (by decide))
    (hd : ∀ c : Dev nD, m ((c : Thread nD τ).loc main_arg3) = Layout.block ⟨2, ![512, 256]⟩ ⟨2, ![8192, 256]⟩ 0 16 c d (by decide)) :
    outAt m = refOut x g u d := by
  funext i
  obtain ⟨r, l, rfl⟩ : ∃ (r l : Fin 256), i = ix2 r l := ⟨i 0, i 1, eq_ix2 i⟩
  rw [outAt_apply, refOut_apply, sum_hidden]
  refine Finset.sum_congr rfl fun c _ => ?_
  rw [part_eq, hx c, hg c, hu c, hd c]
  exact (pay1_apply _ _ _ _ r l).trans (Finset.sum_congr rfl fun k _ => term_block c x g u d r l k)

end Cert.Mlp

end
-- ==== Proof.Algebraic.lean ====
/-
The value claim: over the extended reals the kernel leaves the reference's result on every device.
-/
module

public import proofs.«01_k».proof.Proof.Frames
public import proofs.«01_k».proof.Proof.Equation

@[expose] public section

noncomputable section

namespace Cert.Proof

open Idealize.ShloMosaic Idealize.SL.Sem

/-- Over the extended reals every device of the kernel ends with the reference's result. -/
theorem algebraic : Cert.algebraic_KernelIdeal_ReferenceIdeal (hKernelIdeal := Cert.KernelIdeal.Gen.facts)
    (hReferenceIdeal := Cert.ReferenceIdeal.Gen.facts) := by
  intro m g m' g' _ h
  refine ⟨_, (θ_run Cert.KernelIdeal.defs _ _).mono (fun r hr c => ⟨?_, Cert.Mlp.args_kept m hr.1 c⟩) (Cert.Mlp.run_main (F := Ideal) m g),
    (θ_run Cert.ReferenceIdeal.defs _ _).mono (fun r hr => hr 0) (Cert.ReferenceIdeal.Value.run (F := Ideal) m' g')⟩
  refine (hr.1 c (4 : Fin 5)).trans ((Cert.Mlp.finalA_out m c).trans ?_)
  exact Cert.Mlp.outAt_eq m _ _ _ _ (fun c => (h c).1) (fun c => (h c).2.1) (fun c => (h c).2.2.1) (fun c => (h c).2.2.2)

end Cert.Proof

end
-- ==== Proof.lean ====
/- The proof of the certificate's claims, put together from the modules beside it. -/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
